-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_n" .f32 0x394CCCCD#32 ((1 / 5120 : ℝ) : EReal)

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_0) = v0 c
          ∧ r.2.mem ((c.tc : Thread Cert.ReferenceIdeal.nD Cert.ReferenceIdeal.τ).loc Cert.ReferenceIdeal.main_v13_1) = v1 c
          ∧ r.2.mem ((c.tc : Thread Cert.ReferenceIdeal.nD Cert.ReferenceIdeal.τ).loc Cert.ReferenceIdeal.main_v13_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S2x128x8192 : Shape := ⟨3, ![2, 128, 8192]⟩
abbrev S2x128x1 : Shape := ⟨3, ![2, 128, 1]⟩
abbrev S8192x5120 : Shape := ⟨2, ![8192, 5120]⟩
abbrev S5120 : Shape := ⟨1, ![5120]⟩
abbrev S2x128x5120 : Shape := ⟨3, ![2, 128, 5120]⟩
abbrev S2 : Shape := ⟨1, ![2]⟩
abbrev S_ : Shape := ⟨0, ![]⟩

class Facts : Prop where
  bcast_S_S5120 : S_.BroadcastsInDim S5120 (![] : Fin 0 → Fin S5120.rank)
  reducesTo_S5120_S_d0 : S5120.ReducesTo [0] S_
  h_S_ : 0 < S_.numel

variable [Facts]

def fn {F : FTy → Type} [FloatOps F] (main_arg0 : FVec F S2x128x8192 .fp8e4m3) (main_arg1 : FVec F S2x128x1 .f32) (main_arg2 : FVec F S8192x5120 .fp8e4m3) (main_arg3 : FVec F S5120 .f32) (main_arg4 : FVec F S2x128x5120 .bf16) (main_arg5 : FVec F S5120 .f32) (main_arg6 : IVec S2 32) : IVec S_ 1 :=
  let main_v0 : FVec F S5120 .f32 := Host.absf main_arg5
  let main_cst : FVec F S_ .f32 := constant S_ .f32 0x7F7FFFFF#32
  let main_v1 : FVec F S5120 .f32 := broadcastInDim S5120 ![] bcast_S_S5120 main_cst
  let main_v2 : IVec S5120 1 := cmpf .ole main_v0 main_v1
  let main_c : IVec S_ 1 := constantI S_ 1 1#1
  let main_v3 : IVec S_ 1 := (fun x v => Host.reduce IntOp.andi x v reducesTo_S5120_S_d0 h_S_) main_v2 main_c
  main_v3
-- ==== Kernel.lean ====
abbrev S2x128x8192 : Shape := ⟨3, ![2, 128, 8192]⟩
abbrev S2x128x1 : Shape := ⟨3, ![2, 128, 1]⟩
abbrev S8192x5120 : Shape := ⟨2, ![8192, 5120]⟩
abbrev S5120 : Shape := ⟨1, ![5120]⟩
abbrev S2x128x5120 : Shape := ⟨3, ![2, 128, 5120]⟩
abbrev S2 : Shape := ⟨1, ![2]⟩
abbrev S256x8192 : Shape := ⟨2, ![256, 8192]⟩
abbrev S256x1 : Shape := ⟨2, ![256, 1]⟩
abbrev S1x5120 : Shape := ⟨2, ![1, 5120]⟩
abbrev S256x5120 : Shape := ⟨2, ![256, 5120]⟩
abbrev S8192x512 : Shape := ⟨2, ![8192, 512]⟩
abbrev S1x512 : Shape := ⟨2, ![1, 512]⟩
abbrev S256x512 : Shape := ⟨2, ![256, 512]⟩
abbrev S256x128 : Shape := ⟨2, ![256, 128]⟩
abbrev S1 : Shape := ⟨1, ![1]⟩
abbrev S32x128 : Shape := ⟨2, ![32, 128]⟩
abbrev S32 : Shape := ⟨1, ![32]⟩
abbrev S32x1 : Shape := ⟨2, ![32, 1]⟩
abbrev S32x5120 : Shape := ⟨2, ![32, 5120]⟩
abbrev S1x256 : Shape := ⟨2, ![1, 256]⟩
abbrev S32x256 : Shape := ⟨2, ![32, 256]⟩

abbrev nBuf : Space → Nat
  | .hbm => 14
  | .vmem => 15
  | .smem => 1
  | _ => 0

abbrev bufTy : (tb : Table) → Fin (tcTables nBuf tb) → BufTy
  | .hbm, ⟨0, _⟩ => ⟨S2x128x8192, .fp8e4m3⟩
  | .hbm, ⟨1, _⟩ => ⟨S2x128x1, .f32⟩
  | .hbm, ⟨2, _⟩ => ⟨S8192x5120, .fp8e4m3⟩
  | .hbm, ⟨3, _⟩ => ⟨S5120, .f32⟩
  | .hbm, ⟨4, _⟩ => ⟨S2x128x5120, .bf16⟩
  | .hbm, ⟨5, _⟩ => ⟨S5120, .f32⟩
  | .hbm, ⟨6, _⟩ => ⟨S256x8192, .fp8e4m3⟩
  | .hbm, ⟨7, _⟩ => ⟨S256x1, .f32⟩
  | .hbm, ⟨8, _⟩ => ⟨S1x5120, .f32⟩
  | .hbm, ⟨9, _⟩ => ⟨S256x5120, .bf16⟩
  | .hbm, ⟨10, _⟩ => ⟨S1x5120, .f32⟩
  | .hbm, ⟨11, _⟩ => ⟨S256x5120, .bf16⟩
  | .hbm, ⟨12, _⟩ => ⟨S256x5120, .fp8e4m3⟩
  | .hbm, ⟨13, _⟩ => ⟨S256x1, .f32⟩
  | .local _ .vmem, ⟨0, _⟩ => ⟨S256x8192, .fp8e4m3⟩
  | .local _ .vmem, ⟨1, _⟩ => ⟨S256x1, .f32⟩
  | .local _ .vmem, ⟨2, _⟩ => ⟨S8192x512, .fp8e4m3⟩
  | .local _ .vmem, ⟨3, _⟩ => ⟨S8192x512, .fp8e4m3⟩
  | .local _ .vmem, ⟨4, _⟩ => ⟨S1x512, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | .local _ .vmem, ⟨8, _⟩ => ⟨S1x5120, .f32⟩
  | .local _ .vmem, ⟨9, _⟩ => ⟨S256x512, .bf16⟩
  | .local _ .vmem, ⟨10, _⟩ => ⟨S256x512, .bf16⟩
  | .local _ .vmem, ⟨11, _⟩ => ⟨S256x5120, .fp8e4m3⟩
  | .local _ .vmem, ⟨12, _⟩ => ⟨S256x1, .f32⟩
  | .local _ .vmem, ⟨13, _⟩ => ⟨S256x5120, .bf16⟩
  | .local _ .vmem, ⟨14, _⟩ => ⟨S256x128, .f32⟩
  | .local _ .smem, ⟨0, _⟩ => ⟨S2, .i32⟩
  | _, _ => ⟨S2x128x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![10], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg0 : BitVec 32 := BitVec.ofNat 32 (i 0).val
  let c512_i32 : BitVec 32 := 512#32
  let v46 : BitVec 32 := Scalar.muli arg0 c512_i32
  v46
def k0_off1 (i : grid0.Coords) : Fin 2 → Nat :=
  let c0_20 : Index := 0#32
  let arg0 : BitVec 32 := BitVec.ofNat 32 (i 0).val
  let c512_i32 : BitVec 32 := 512#32
  let v46 : BitVec 32 := Scalar.muli arg0 c512_i32
  let v47 : BitVec 32 := v46
  let v48 : Index := Scalar.indexCast v47
  ![0, v48.toNat]
def k0_cond3 (i : grid0.Coords) : BitVec 1 :=
  let arg0 : BitVec 32 := BitVec.ofNat 32 (i 0).val
  let c9_i32 : BitVec 32 := 9#32
  let v72 : BitVec 1 := Scalar.cmpi .eq arg0 c9_i32
  let v73 : BitVec 32 := Scalar.extui v72
  let c0_i32_26 : BitVec 32 := 0#32
  let v74 : BitVec 1 := Scalar.cmpi .ne v73 c0_i32_26
  v74

@[reducible] def k0_t1_loop : Scf.Loop 32 :=
  let c0_i32_27 : BitVec 32 := 0#32
  let c8_i32 : BitVec 32 := 8#32
  let v75 : BitVec 32 := Scalar.addi c0_i32_27 c8_i32
  let c1_i32_28 : BitVec 32 := 1#32
  ⟨c0_i32_27, v75, c1_i32_28⟩
def k0_mult2 (k0_t1 : Fin k0_t1_loop.trips) : BitVec 32 :=
  let c0_i32_27 : BitVec 32 := 0#32
  let c1_i32_28 : BitVec 32 := 1#32
  let arg13 : BitVec 32 := Scf.iv c0_i32_27 c1_i32_28 k0_t1
  let c32_i32 : BitVec 32 := 32#32
  let v76 : BitVec 32 := Scalar.muli arg13 c32_i32
  v76
def k0_off2 (k0_t1 : Fin k0_t1_loop.trips) : Fin 2 → Nat :=
  let c0_i32_27 : BitVec 32 := 0#32
  let c1_i32_28 : BitVec 32 := 1#32
  let arg13 : BitVec 32 := Scf.iv c0_i32_27 c1_i32_28 k0_t1
  let c32_i32 : BitVec 32 := 32#32
  let v76 : BitVec 32 := Scalar.muli arg13 c32_i32
  let v77 : BitVec 32 := v76
  let v78 : Index := Scalar.indexCast v77
  let c0_30 : Index := 0#32
  ![v78.toNat, 0]
def k0_off3 (k0_t1 : Fin k0_t1_loop.trips) : Fin 2 → Nat :=
  let c0_i32_27 : BitVec 32 := 0#32
  let c1_i32_28 : BitVec 32 := 1#32
  let arg13 : BitVec 32 := Scf.iv c0_i32_27 c1_i32_28 k0_t1
  let c32_i32 : BitVec 32 := 32#32
  let v76 : BitVec 32 := Scalar.muli arg13 c32_i32
  let v77 : BitVec 32 := v76
  let v87 : Index := Scalar.indexCast v77
  let c0_34 : Index := 0#32
  ![v87.toNat, 0]
def k0_off4 (k0_t1 : Fin k0_t1_loop.trips) : Fin 2 → Nat :=
  let c0_i32_27 : BitVec 32 := 0#32
  let c1_i32_28 : BitVec 32 := 1#32
  let arg13 : BitVec 32 := Scf.iv c0_i32_27 c1_i32_28 k0_t1
  let c32_i32 : BitVec 32 := 32#32
  let v76 : BitVec 32 := Scalar.muli arg13 c32_i32
  let v77 : BitVec 32 := v76
  let v140 : Index := Scalar.indexCast v77
  let c0_51 : Index := 0#32
  ![v140.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_n" => some ((1 / 5120 : ℝ) : EReal)
  | _ => none
-- ==== ReferenceIdeal.lean ====
abbrev S2x128x8192 : Shape := ⟨3, ![2, 128, 8192]⟩
abbrev S2x128x1 : Shape := ⟨3, ![2, 128, 1]⟩
abbrev S8192x5120 : Shape := ⟨2, ![8192, 5120]⟩
abbrev S5120 : Shape := ⟨1, ![5120]⟩
abbrev S2x128x5120 : Shape := ⟨3, ![2, 128, 5120]⟩
abbrev S2 : Shape := ⟨1, ![2]⟩
abbrev S128 : Shape := ⟨1, ![128]⟩
abbrev S1x128 : Shape := ⟨2, ![1, 128]⟩
abbrev S2x1 : Shape := ⟨2, ![2, 1]⟩
abbrev S2x128 : Shape := ⟨2, ![2, 128]⟩
abbrev S256x1 : Shape := ⟨2, ![256, 1]⟩
abbrev S256x8192 : Shape := ⟨2, ![256, 8192]⟩
abbrev S1x5120 : Shape := ⟨2, ![1, 5120]⟩
abbrev S256x5120 : Shape := ⟨2, ![256, 5120]⟩
abbrev S256 : Shape := ⟨1, ![256]⟩
abbrev S1x254 : Shape := ⟨2, ![1, 254]⟩
abbrev S256x254 : Shape := ⟨2, ![256, 254]⟩

abbrev nBuf : Space → Nat
  | .hbm => 23
  | .vmem => 10
  | .smem => 0
  | _ => 0

abbrev bufTy : (tb : Table) → Fin (tcTables nBuf tb) → BufTy
  | .hbm, ⟨0, _⟩ => ⟨S2x128x8192, .fp8e4m3⟩
  | .hbm, ⟨1, _⟩ => ⟨S2x128x1, .f32⟩
  | .hbm, ⟨2, _⟩ => ⟨S8192x5120, .fp8e4m3⟩
  | .hbm, ⟨3, _⟩ => ⟨S5120, .f32⟩
  | .hbm, ⟨4, _⟩ => ⟨S2x128x5120, .bf16⟩
  | .hbm, ⟨5, _⟩ => ⟨S5120, .f32⟩
  | .hbm, ⟨6, _⟩ => ⟨S2, .i32⟩
  | .hbm, ⟨7, _⟩ => ⟨S128, .i32⟩
  | .hbm, ⟨8, _⟩ => ⟨S1x128, .i32⟩
  | .hbm, ⟨9, _⟩ => ⟨S2x1, .i32⟩
  | .hbm, ⟨10, _⟩ => ⟨S2x128, .i32⟩
  | .hbm, ⟨11, _⟩ => ⟨S2x128, .i32⟩
  | .hbm, ⟨12, _⟩ => ⟨S2x128, .i1⟩
  | .hbm, ⟨13, _⟩ => ⟨S2x128, .i32⟩
  | .hbm, ⟨14, _⟩ => ⟨S256x1, .i32⟩
  | .hbm, ⟨15, _⟩ => ⟨S256x8192, .fp8e4m3⟩
  | .hbm, ⟨16, _⟩ => ⟨S256x1, .f32⟩
  | .hbm, ⟨17, _⟩ => ⟨S1x5120, .f32⟩
  | .hbm, ⟨18, _⟩ => ⟨S256x5120, .bf16⟩
  | .hbm, ⟨19, _⟩ => ⟨S1x5120, .f32⟩
  | .hbm, ⟨20, _⟩ => ⟨S256x5120, .bf16⟩
  | .hbm, ⟨21, _⟩ => ⟨S256x5120, .fp8e4m3⟩
  | .hbm, ⟨22, _⟩ => ⟨S256x1, .f32⟩
  | .local _ .vmem, ⟨0, _⟩ => ⟨S256x1, .i32⟩
  | .local _ .vmem, ⟨1, _⟩ => ⟨S256x8192, .fp8e4m3⟩
  | .local _ .vmem, ⟨2, _⟩ => ⟨S256x1, .f32⟩
  | .local _ .vmem, ⟨3, _⟩ => ⟨S8192x5120, .fp8e4m3⟩
  | .local _ .vmem, ⟨4, _⟩ => ⟨S1x5120, .f32⟩
  | .local _ .vmem, ⟨5, _⟩ => ⟨S256x5120, .bf16⟩
  | .local _ .vmem, ⟨6, _⟩ => ⟨S1x5120, .f32⟩
  | .local _ .vmem, ⟨7, _⟩ => ⟨S256x5120, .bf16⟩
  | .local _ .vmem, ⟨8, _⟩ => ⟨S256x5120, .fp8e4m3⟩
  | .local _ .vmem, ⟨9, _⟩ => ⟨S256x1, .f32⟩
  | _, _ => ⟨S2x128x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelKit.lean ====
/- The schedule of the kernel's one grid, and what it finds when the region is entered: at which points each window is
   fetched and written back, the current staging buffers, @main up to the region, the arrays and the prefetched table
   there, and each input window's block at a point. -/
module

public import proofs.«01_k».proof.Proof.Gen.Kernel.Launch
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the first point only, at any contents of the tables (its index map reads none). -/
theorem fetch0_0 (a : (pcfg0 (F := F)).Adm) : ∀ t : Fin (cfg0 a).N, ((cfg0 a).win 0).fetch t = true ↔ t.val % 10 = 0 :=
  (fun t => Pipeline.Window.fetchOf_const cc0_transform_0 (fun _ _ => rfl) (n := 10) (by decide) t : ∀ t : Fin grid0.N, Pipeline.Window.fetchOf grid0 false cc0_transform_0 t = true ↔ t.val % 10 = 0)
/-- Window 1 (operand 2 (%1)) is fetched at the first point only, at any contents of the tables (its index map reads none). -/
theorem fetch0_1 (a : (pcfg0 (F := F)).Adm) : ∀ t : Fin (cfg0 a).N, ((cfg0 a).win 1).fetch t = true ↔ t.val % 10 = 0 :=
  (fun t => Pipeline.Window.fetchOf_const cc0_transform_1 (fun _ _ => rfl) (n := 10) (by decide) t : ∀ t : Fin grid0.N, Pipeline.Window.fetchOf grid0 false cc0_transform_1 t = true ↔ t.val % 10 = 0)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (operand 4 (%2)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 1 (fun _ => rfl) (by decide)) (P := 1) (by decide) t).mpr (Nat.mod_one _) : ∀ t : Fin grid0.N, Pipeline.Window.fetchOf grid0 false cc0_transform_3 t = true)
/-- Window 4 (operand 5 (%3)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 1 (fun _ => rfl) (by decide)) (P := 1) (by decide) t).mpr (Nat.mod_one _) : ∀ t : Fin grid0.N, Pipeline.Window.fetchOf grid0 false cc0_transform_4 t = true)
/-- Window 5 (operand 6 (%4)) is fetched at the first point only, at any contents of the tables (its index map reads none). -/
theorem fetch0_5 (a : (pcfg0 (F := F)).Adm) : ∀ t : Fin (cfg0 a).N, ((cfg0 a).win 5).fetch t = true ↔ t.val % 10 = 0 :=
  (fun t => Pipeline.Window.fetchOf_const cc0_transform_5 (fun _ _ => rfl) (n := 10) (by decide) t : ∀ t : Fin grid0.N, Pipeline.Window.fetchOf grid0 false cc0_transform_5 t = true ↔ t.val % 10 = 0)
/-- Window 6 (result 0 (%5#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 1 (fun _ => rfl) (by decide)) (P := 1) (m := 0) (by decide) rfl t).mpr (Nat.mod_one _) : ∀ t : Fin grid0.N, Pipeline.Window.flushOf grid0 true cc0_transform_6 t = true)
/-- Window 7 (result 1 (%5#1)) is written back at the last point only, at any contents of the tables (its index map reads none). -/
theorem flush0_7 (a : (pcfg0 (F := F)).Adm) : ∀ t : Fin (cfg0 a).N, ((cfg0 a).win 7).flush t = true ↔ t.val % 10 = 9 :=
  (fun t => Pipeline.Window.flushOf_const cc0_transform_7 (fun _ _ => rfl) (n := 10) (by decide) rfl t : ∀ t : Fin grid0.N, Pipeline.Window.flushOf grid0 true cc0_transform_7 t = true ↔ t.val % 10 = 9)
/-- Window 8 (result 2 (%5#2)) is written back at the last point only, at any contents of the tables (its index map reads none). -/
theorem flush0_8 (a : (pcfg0 (F := F)).Adm) : ∀ t : Fin (cfg0 a).N, ((cfg0 a).win 8).flush t = true ↔ t.val % 10 = 9 :=
  (fun t => Pipeline.Window.flushOf_const cc0_transform_8 (fun _ _ => rfl) (n := 10) (by decide) rfl t : ∀ t : Fin grid0.N, Pipeline.Window.flushOf grid0 true cc0_transform_8 t = true ↔ t.val % 10 = 9)

/-- The current staging memref of each window at point `t`: which of its buffers it is on. -/
abbrev st0_0 (a : (pcfg0 (F := F)).Adm) (t : Fin (cfg0 a).N) := ((cfg0 a).win 0).stage ((cfg0 a).slots t 0)
/-- The buffer that holds the block of window 1 at step `t`. -/
abbrev st0_1 (a : (pcfg0 (F := F)).Adm) (t : Fin (cfg0 a).N) := ((cfg0 a).win 1).stage ((cfg0 a).slots t 1)
/-- The buffer that holds the block of window 2 at step `t`. -/
abbrev st0_2 (a : (pcfg0 (F := F)).Adm) (t : Fin (cfg0 a).N) := ((cfg0 a).win 2).stage ((cfg0 a).slots t 2)
/-- The buffer that holds the block of window 3 at step `t`. -/
abbrev st0_3 (a : (pcfg0 (F := F)).Adm) (t : Fin (cfg0 a).N) := ((cfg0 a).win 3).stage ((cfg0 a).slots t 3)
/-- The buffer that holds the block of window 4 at step `t`. -/
abbrev st0_4 (a : (pcfg0 (F := F)).Adm) (t : Fin (cfg0 a).N) := ((cfg0 a).win 4).stage ((cfg0 a).slots t 4)
/-- The buffer that holds the block of window 5 at step `t`. -/
abbrev st0_5 (a : (pcfg0 (F := F)).Adm) (t : Fin (cfg0 a).N) := ((cfg0 a).win 5).stage ((cfg0 a).slots t 5)
/-- The buffer that holds the block of window 6 at step `t`. -/
abbrev st0_6 (a : (pcfg0 (F := F)).Adm) (t : Fin (cfg0 a).N) := ((cfg0 a).win 6).stage ((cfg0 a).slots t 6)
/-- The buffer that holds the block of window 7 at step `t`. -/
abbrev st0_7 (a : (pcfg0 (F := F)).Adm) (t : Fin (cfg0 a).N) := ((cfg0 a).win 7).stage ((cfg0 a).slots t 7)
/-- The buffer that holds the block of window 8 at step `t`. -/
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_oproj_rmsnorm_quant (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The operations of the host make no new buffers. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The schedule of the call, from the lengths found at launch. -/
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg6
/-- The lengths are read as one whole buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- Core `c` holds the buffer of the lengths, with contents `f`. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

end Cert.Kernel.Gen

end
-- ==== Proof.KernelChunk.lean ====
/- What one chunk of 32 rows of the last step computes, and the loop over the eight chunks. -/
module

public import proofs.«01_k».proof.Proof.Gen.Kernel.Loops
public import Idealize.ShloMosaic.Lib.VecWindow
public import Idealize.ShloMosaic.Lib.Pointwise
public import Idealize.ShloMosaic.Lib.Pipeline.FrameBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Rows `32 k … 32 k + 31` of the partial sums of squares. -/
def sumRows (x : Vec F S256x128 .f32) (k : Fin 8) : Vec F S32x128 .f32 :=
  fun y => x (ix2 ⟨32 * k.val + (y 0).val, by have : (y 0).val < 32 := (y 0).isLt; have := k.isLt; omega⟩ (y 1))

/-- Rows `32 k … 32 k + 31` of the summed residual stream. -/
def hRows (x : Vec F S256x5120 .bf16) (k : Fin 8) : Vec F S32x5120 .bf16 :=
  fun y => x (ix2 ⟨32 * k.val + (y 0).val, by have : (y 0).val < 32 := (y 0).isLt; have := k.isLt; omega⟩ (y 1))

/-- The codes of chunk `k`. -/
def chunkCodes (x7 : Vec F S1x5120 .f32) (x11 : Vec F S256x5120 .bf16) (x12 : Vec F S256x128 .f32) (k : Fin 8) :
    FVec F S32x5120 .fp8e4m3 :=
  k0_pay8 (k0_pay9 (sumRows x12 k) (hRows x11 k) x7) (k0_pay11 (sumRows x12 k) (hRows x11 k) x7)
    (k0_pay12 (sumRows x12 k) (hRows x11 k) x7) k0_pay13

/-- The scales of chunk `k`. -/
def chunkScale (x7 : Vec F S1x5120 .f32) (x11 : Vec F S256x5120 .bf16) (x12 : Vec F S256x128 .f32) (k : Fin 8) :
    FVec F S32x1 .f32 :=
  k0_pay7 (k0_pay11 (sumRows x12 k) (hRows x11 k) x7) (k0_pay12 (sumRows x12 k) (hRows x11 k) x7) k0_pay13

/-- The codes of all rows: row `r` is row `r % 32` of chunk `r / 32`. -/
def codesOf (x7 : Vec F S1x5120 .f32) (x11 : Vec F S256x5120 .bf16) (x12 : Vec F S256x128 .f32) :
    Vec F S256x5120 .fp8e4m3 :=
  fun y => chunkCodes x7 x11 x12 ⟨(y 0).val / 32, by have : (y 0).val < 256 := (y 0).isLt; omega⟩
    (ix2 ⟨(y 0).val % 32, by omega⟩ (y 1))

/-- The scales of all rows: row `r` is row `r % 32` of chunk `r / 32`. -/
def scaleOf (x7 : Vec F S1x5120 .f32) (x11 : Vec F S256x5120 .bf16) (x12 : Vec F S256x128 .f32) :
    Vec F S256x1 .f32 :=
  fun y => chunkScale x7 x11 x12 ⟨(y 0).val / 32, by have : (y 0).val < 256 := (y 0).isLt; omega⟩
    (ix2 ⟨(y 0).val % 32, by omega⟩ (y 1))

/-- The loop over the rows has eight passes. -/
theorem trips_eq : k0_t1_loop.trips = 8 := by decide +kernel

/-- A chunk's number. -/
def chunkNo (k : Fin k0_t1_loop.trips) : Fin 8 := ⟨k.val, Nat.lt_of_lt_of_le k.isLt k0_t1_abs.2.1⟩

/-- A read of the 32 rows of a chunk from the partial sums. -/
theorem readAt_sumRows (v : View sig .tc .vmem S256x128 .f32) (f : v.ty.Contents (Elt F)) (k : Fin k0_t1_loop.trips) (inb) :
    v.readAt (Elt F) (Rect.unit (s := S256x128) (k0_off2 k) S32x128.size inb).toLoadRect f
      = sumRows (v.read (Elt F) f) (chunkNo k) := by
  have hk := (chunkNo k).isLt
  funext y
  show v.read (Elt F) f _ = v.read (Elt F) f _
  congr 1
  funext a; apply Fin.ext
  refine (congrArg (fun o : Fin 2 → ℕ => o a + 1 * (y a).val) (k0_off2_eq k)).trans ?_
  fin_cases a
  · show 32 * k.val + 1 * (y 0).val = 32 * k.val + (y 0).val
    omega
  · show 0 + 1 * (y 1).val = (y 1).val
    omega

/-- A read of the 32 rows of a chunk from the stream. -/
theorem readAt_hRows (v : View sig .tc .vmem S256x5120 .bf16) (f : v.ty.Contents (Elt F)) (k : Fin k0_t1_loop.trips) (inb) :
    v.readAt (Elt F) (Rect.unit (s := S256x5120) (k0_off3 k) S32x5120.size inb).toLoadRect f
      = hRows (v.read (Elt F) f) (chunkNo k) := by
  have hk := (chunkNo k).isLt
  funext y
  show v.read (Elt F) f _ = v.read (Elt F) f _
  congr 1
  funext a; apply Fin.ext
  refine (congrArg (fun o : Fin 2 → ℕ => o a + 1 * (y a).val) (k0_off3_eq k)).trans ?_
  fin_cases a
  · show 32 * k.val + 1 * (y 0).val = 32 * k.val + (y 0).val
    omega
  · show 0 + 1 * (y 1).val = (y 1).val
    omega

section

variable (𝒱 : Variants) (c : Dev nD) (bd : Option 𝒱.V) (i : grid0.Coords)
    (arg1 : Memref sig .tc .smem S2 .i32) (harg1 : arg1.IsWhole)
    (arg2 : Memref sig .tc .vmem S256x8192 .fp8e4m3) (harg2 : arg2.IsWhole)
    (arg3 : Memref sig .tc .vmem S256x1 .f32) (harg3 : arg3.IsWhole)
    (arg4 : Memref sig .tc .vmem S8192x512 .fp8e4m3) (harg4 : arg4.IsWhole)
    (arg5 : Memref sig .tc .vmem S1x512 .f32) (harg5 : arg5.IsWhole)
    (arg6 : Memref sig .tc .vmem S256x512 .bf16) (harg6 : arg6.IsWhole)
    (arg7 : Memref sig .tc .vmem S1x5120 .f32) (harg7 : arg7.IsWhole)
    (arg8 : Memref sig .tc .vmem S256x512 .bf16) (harg8 : arg8.IsWhole)
    (arg9 : Memref sig .tc .vmem S256x5120 .fp8e4m3) (harg9 : arg9.IsWhole)
    (arg10 : Memref sig .tc .vmem S256x1 .f32) (harg10 : arg10.IsWhole)
    (arg11 : Memref sig .tc .vmem S256x5120 .bf16) (harg11 : arg11.IsWhole)
    (arg12 : Memref sig .tc .vmem S256x128 .f32) (harg12 : arg12.IsWhole)
    (k0_h3 : k0_cond3 i = 1#1)
    (X7 : BufTy.Contents (Elt F) arg7.view.ty) (X11 : BufTy.Contents (Elt F) arg11.view.ty)
    (X12 : BufTy.Contents (Elt F) arg12.view.ty)

/-- A chunk writes its 32 rows of codes and its 32 scales, and nothing else. -/
theorem tripL_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 k
      = ([⟨Rect.unit (s := S256x5120) (k0_off3 k) S32x5120.size (k0_off3_inb i k k0_h3),
            chunkCodes (arg7.view.read (Elt F) X7) (arg11.view.read (Elt F) X11) (arg12.view.read (Elt F) X12) (chunkNo k)⟩],
         [⟨Rect.unit (s := S256x1) (k0_off4 k) S32x1.size (k0_off4_inb i k k0_h3),
            chunkScale (arg7.view.read (Elt F) X7) (arg11.view.read (Elt F) X11) (arg12.view.read (Elt F) X12) (chunkNo k)⟩]) := by
  unfold tripL_k0_t1 trip_k0_t1 chunkCodes chunkScale
  rw [← readAt_sumRows arg12.view X12 k (k0_off2_inb i k k0_h3), ← readAt_hRows arg11.view X11 k (k0_off3_inb i k k0_h3),
    ← View.readAt_full arg7.view X7 (off := ![0, 0]) inb_S1x5120_S1x5120_0_0]
  rfl

/-- After `n` passes the first `32 n` rows of the codes are written, each with its codes. -/
theorem pb_rows (G9 : BufTy.Contents (Elt F) arg9.view.ty) : ∀ n, n ≤ 8 → ∀ y : S256x5120.Idx, (y 0).val < 32 * n →
    arg9.view.read (Elt F) (arg9.view.writes (Elt F) G9
        (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 n).1) y
      = codesOf (arg7.view.read (Elt F) X7) (arg11.view.read (Elt F) X11) (arg12.view.read (Elt F) X12) y
  | 0, _, y, hy => by omega
  | n + 1, hn, y, hy => by
    have hk : n < k0_t1_loop.trips := by rw [trips_eq]; omega
    have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 ⟨n, hk⟩
    rw [show pb_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 (n + 1) = _ from h, tripL_eq]
    have hy5 : (y 1).val < 5120 := (y 1).isLt
    by_cases hlo : 32 * n ≤ (y 0).val
    · have hx : (y 0).val - 32 * n < 32 := by omega
      refine (View.read_writes_cons_rows_of_mem (d := ![256, 5120]) arg9.view G9 _ _ _ y (ix2 ⟨(y 0).val - 32 * n, hx⟩ (y 1))
        (k0_off3_eq ⟨n, hk⟩) (by show (y 0).val = 32 * n + ((y 0).val - 32 * n); omega) rfl).trans ?_
      have e1 : (y 0).val / 32 = n := by omega
      have e2 : (y 0).val % 32 = (y 0).val - 32 * n := by omega
      unfold codesOf
      exact congrArg₂ (fun k z => chunkCodes (arg7.view.read (Elt F) X7) (arg11.view.read (Elt F) X11)
        (arg12.view.read (Elt F) X12) k (ix2 z (y 1))) (Fin.ext e1.symm) (Fin.ext e2.symm)
    · refine (View.read_writes_cons_rows_of_not_mem (d := ![256, 5120]) arg9.view G9 _ _ _ y
        (k0_off3_eq ⟨n, hk⟩) rfl (Or.inl (by show (y 0).val < 32 * n; omega))).trans ?_
      exact pb_rows G9 n (by omega) y (by omega)

/-- After the loop the codes' buffer holds the codes of all rows. -/
theorem pb_codes (G9 : BufTy.Contents (Elt F) arg9.view.ty) :
    arg9.view.read (Elt F) (arg9.view.writes (Elt F) G9
        (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 k0_t1_loop.trips).1)
      = codesOf (arg7.view.read (Elt F) X7) (arg11.view.read (Elt F) X11) (arg12.view.read (Elt F) X12) := by
  funext y
  exact pb_rows 𝒱 c bd i arg1 harg1 arg2 harg2 arg3 harg3 arg4 harg4 arg5 harg5 arg6 harg6 arg7 harg7 arg8 harg8 arg9 harg9 arg10 harg10 arg11 harg11 arg12 harg12 k0_h3 X7 X11 X12 G9 _ (by rw [trips_eq]) y
    (by rw [trips_eq]; exact (y 0).isLt)

/-- After `n` passes the first `32 n` rows of the scales are written, each with its scale. -/
theorem pb_scales (G10 : BufTy.Contents (Elt F) arg10.view.ty) : ∀ n, n ≤ 8 → ∀ y : S256x1.Idx, (y 0).val < 32 * n →
    arg10.view.read (Elt F) (arg10.view.writes (Elt F) G10
        (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 n).2) y
      = scaleOf (arg7.view.read (Elt F) X7) (arg11.view.read (Elt F) X11) (arg12.view.read (Elt F) X12) y
  | 0, _, y, hy => by omega
  | n + 1, hn, y, hy => by
    have hk : n < k0_t1_loop.trips := by rw [trips_eq]; omega
    have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 ⟨n, hk⟩
    rw [show pb_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 (n + 1) = _ from h, tripL_eq]
    have hy5 : (y 1).val < 1 := (y 1).isLt
    by_cases hlo : 32 * n ≤ (y 0).val
    · have hx : (y 0).val - 32 * n < 32 := by omega
      refine (View.read_writes_cons_rows_of_mem (d := ![256, 1]) arg10.view G10 _ _ _ y (ix2 ⟨(y 0).val - 32 * n, hx⟩ (y 1))
        (k0_off4_eq ⟨n, hk⟩) (by show (y 0).val = 32 * n + ((y 0).val - 32 * n); omega) rfl).trans ?_
      have e1 : (y 0).val / 32 = n := by omega
      have e2 : (y 0).val % 32 = (y 0).val - 32 * n := by omega
      unfold scaleOf
      exact congrArg₂ (fun k z => chunkScale (arg7.view.read (Elt F) X7) (arg11.view.read (Elt F) X11)
        (arg12.view.read (Elt F) X12) k (ix2 z (y 1))) (Fin.ext e1.symm) (Fin.ext e2.symm)
    · refine (View.read_writes_cons_rows_of_not_mem (d := ![256, 1]) arg10.view G10 _ _ _ y
        (k0_off4_eq ⟨n, hk⟩) rfl (Or.inl (by show (y 0).val < 32 * n; omega))).trans ?_
      exact pb_scales G10 n (by omega) y (by omega)

/-- After the loop the scales' buffer holds the scales of all rows. -/
theorem pb_scale (G10 : BufTy.Contents (Elt F) arg10.view.ty) :
    arg10.view.read (Elt F) (arg10.view.writes (Elt F) G10
        (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 k0_t1_loop.trips).2)
      = scaleOf (arg7.view.read (Elt F) X7) (arg11.view.read (Elt F) X11) (arg12.view.read (Elt F) X12) := by
  funext y
  exact pb_scales 𝒱 c bd i arg1 harg1 arg2 harg2 arg3 harg3 arg4 harg4 arg5 harg5 arg6 harg6 arg7 harg7 arg8 harg8 arg9 harg9 arg10 harg10 arg11 harg11 arg12 harg12 k0_h3 X7 X11 X12 G10 _ (by rw [trips_eq]) y
    (by rw [trips_eq]; exact (y 0).isLt)

end

end Cert.Kernel.Gen

end
-- ==== Proof.KernelStep.lean ====
/- One step of the kernel: what its blocks and its two scratch buffers hold after it, for the first step, a middle step and the last. -/
module

public import proofs.«01_k».proof.Proof.KernelKit
public import proofs.«01_k».proof.Proof.KernelChunk

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Which rows are valid, from the two lengths in the table. -/
def maskOf (c : Dev nD) (M : Memref sig .tc .smem S2 .i32) (f : TbBuf0 (F := F) c M) : IVec S256x1 1 :=
  k0_pay15 (F := F)
    (M.view.readAt (Elt F) (Rect.unit (s := S2) ![0] S1.size inb_S2_S1_0).toLoadRect f (Shape.Idx.first (numel1_S1.symm ▸ Nat.one_pos)))
    (M.view.readAt (Elt F) (Rect.unit (s := S2) ![1] S1.size inb_S2_S1_1).toLoadRect f (Shape.Idx.first (numel1_S1.symm ▸ Nat.one_pos)))

variable (c : Dev nD) (E : Set ℕ) (i : grid0.Coords)
    (arg1 : Memref sig .tc .smem S2 .i32) (harg1 : arg1.IsWhole)
    (arg2 : Memref sig .tc .vmem S256x8192 .fp8e4m3) (harg2 : arg2.IsWhole)
    (arg3 : Memref sig .tc .vmem S256x1 .f32) (harg3 : arg3.IsWhole)
    (arg4 : Memref sig .tc .vmem S8192x512 .fp8e4m3) (harg4 : arg4.IsWhole)
    (arg5 : Memref sig .tc .vmem S1x512 .f32) (harg5 : arg5.IsWhole)
    (arg6 : Memref sig .tc .vmem S256x512 .bf16) (harg6 : arg6.IsWhole)
    (arg7 : Memref sig .tc .vmem S1x5120 .f32) (harg7 : arg7.IsWhole)
    (arg8 : Memref sig .tc .vmem S256x512 .bf16) (harg8 : arg8.IsWhole)
    (arg9 : Memref sig .tc .vmem S256x5120 .fp8e4m3) (harg9 : arg9.IsWhole)
    (arg10 : Memref sig .tc .vmem S256x1 .f32) (harg10 : arg10.IsWhole)
    (arg11 : Memref sig .tc .vmem S256x5120 .bf16) (harg11 : arg11.IsWhole)
    (arg12 : Memref sig .tc .vmem S256x128 .f32) (harg12 : arg12.IsWhole)
    (f1 : TbBuf0 (F := F) c arg1)
    (x2 : Vec F S256x8192 .fp8e4m3) (x3 : Vec F S256x1 .f32) (x4 : Vec F S8192x512 .fp8e4m3) (x5 : Vec F S1x512 .f32)
    (x6 : Vec F S256x512 .bf16) (x7 : Vec F S1x5120 .f32) (x11 : Vec F S256x5120 .bf16) (x12 : Vec F S256x128 .f32)

/-- The first step: the block's values go to the output block and to their columns of the scratch copy, and the partial sums of squares are set. -/
theorem sound_first (h1 : Scalar.cmpi .ne (Scalar.extui (Scalar.cmpi .eq (BitVec.ofNat 32 (i 0).val) 0#32)) 0#32 = 1#1) (h2 : ¬ Scalar.cmpi .ne (Scalar.extui (Scalar.cmpi .sgt (BitVec.ofNat 32 (i 0).val) 0#32)) 0#32 = 1#1) (h3 : ¬ k0_cond3 i = 1#1) (K : PUnit → sProp 𝕄) :
    iprop(tbPt0 c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12
        ∗ (iprop(tbPt0 c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay1 (k0_pay14 x2 x4 x3 x5) (maskOf c arg1 f1) x6) ∗ (∃ d, owns (c : Thread nD τ) arg9 fullShare d) ∗ (∃ d, owns (c : Thread nD τ) arg10 fullShare d) ∗ owns (c : Thread nD τ) arg11 fullShare (VecWindow.put x11 (![0, 512 * (i 0).val] : Fin 2 → ℕ) S256x512.size (k0_pay1 (k0_pay14 x2 x4 x3 x5) (maskOf c arg1 f1) x6)) ∗ owns (c : Thread nD τ) arg12 fullShare (k0_pay4 (k0_pay14 x2 x4 x3 x5) (maskOf c arg1 f1) x6)) -∗ K ⟨⟩))
      ⊢ wp frame (wpE (defs₀ (F := F)) Variants.none c none) E (cc0_oproj_rmsnorm_quant i arg1 harg1 arg2 harg2 arg3 harg3 arg4 harg4 arg5 harg5 arg6 harg6 arg7 harg7 arg8 harg8 arg9 harg9 arg10 harg10 arg11 harg11 arg12 harg12) K := by
  simp only [cc0_oproj_rmsnorm_quant_eq_skeleton]; unfold cc0_oproj_rmsnorm_quant_skel
  simp only [k0_part2_eq_skeleton]; unfold k0_part2_skel
  unfold owns
  iintro ⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  subst hf2 hf3 hf4 hf5 hf6 hf7 hf11 hf12
  sl_exec
  sl_step
  iapply Hk
  isplitl [H1]; · iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_full (s := S256x512) arg8.view _ inb_S256x512_S256x512_0_0 _ []).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    rfl
  isplitl [H9]
  · iexists _; iexists f9; isplitr; · ipureintro; rfl
    iexact H9
  isplitl [H10]
  · iexists _; iexists f10; isplitr; · ipureintro; rfl
    iexact H10
  isplitl [H11]
  · iexists _; isplitr
    swap; · iexact H11
    ipureintro
    refine (View.read_writes_cons_put arg11.view f11 (k0_off1_inb i) _ [] (k0_off1_eq i)).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    refine congrArg (VecWindow.put (arg11.view.read (Elt F) f11) ![0, 512 * (i 0).val] S256x512.size) ?_
    exact shapeCast_self _ _
  iexists _; isplitr
  swap; · iexact H12
  ipureintro
  refine (View.read_writes_full (s := S256x128) arg12.view f12 inb_S256x128_S256x128_0_0 _ []).trans ?_
  rw [← View.readAt_full arg2.view f2 (off := ![0, 0]) inb_S256x8192_S256x8192_0_0,
    ← View.readAt_full arg3.view f3 (off := ![0, 0]) inb_S256x1_S256x1_0_0,
    ← View.readAt_full arg4.view f4 (off := ![0, 0]) inb_S8192x512_S8192x512_0_0,
    ← View.readAt_full arg5.view f5 (off := ![0, 0]) inb_S1x512_S1x512_0_0,
    ← View.readAt_full arg6.view f6 (off := ![0, 0]) inb_S256x512_S256x512_0_0]
  rfl

/-- A middle step: as the first, but the partial sums of squares are added to. -/
theorem sound_mid (h1 : ¬ Scalar.cmpi .ne (Scalar.extui (Scalar.cmpi .eq (BitVec.ofNat 32 (i 0).val) 0#32)) 0#32 = 1#1) (h2 : Scalar.cmpi .ne (Scalar.extui (Scalar.cmpi .sgt (BitVec.ofNat 32 (i 0).val) 0#32)) 0#32 = 1#1) (h3 : ¬ k0_cond3 i = 1#1) (K : PUnit → sProp 𝕄) :
    iprop(tbPt0 c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12
        ∗ (iprop(tbPt0 c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay1 (k0_pay14 x2 x4 x3 x5) (maskOf c arg1 f1) x6) ∗ (∃ d, owns (c : Thread nD τ) arg9 fullShare d) ∗ (∃ d, owns (c : Thread nD τ) arg10 fullShare d) ∗ owns (c : Thread nD τ) arg11 fullShare (VecWindow.put x11 (![0, 512 * (i 0).val] : Fin 2 → ℕ) S256x512.size (k0_pay1 (k0_pay14 x2 x4 x3 x5) (maskOf c arg1 f1) x6)) ∗ owns (c : Thread nD τ) arg12 fullShare (k0_pay5 (k0_pay14 x2 x4 x3 x5) (maskOf c arg1 f1) x6 x12)) -∗ K ⟨⟩))
      ⊢ wp frame (wpE (defs₀ (F := F)) Variants.none c none) E (cc0_oproj_rmsnorm_quant i arg1 harg1 arg2 harg2 arg3 harg3 arg4 harg4 arg5 harg5 arg6 harg6 arg7 harg7 arg8 harg8 arg9 harg9 arg10 harg10 arg11 harg11 arg12 harg12) K := by
  simp only [cc0_oproj_rmsnorm_quant_eq_skeleton]; unfold cc0_oproj_rmsnorm_quant_skel
  simp only [k0_part2_eq_skeleton]; unfold k0_part2_skel
  unfold owns
  iintro ⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  subst hf2 hf3 hf4 hf5 hf6 hf7 hf11 hf12
  sl_exec
  sl_step
  iapply Hk
  isplitl [H1]; · iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_full (s := S256x512) arg8.view _ inb_S256x512_S256x512_0_0 _ []).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    rfl
  isplitl [H9]
  · iexists _; iexists f9; isplitr; · ipureintro; rfl
    iexact H9
  isplitl [H10]
  · iexists _; iexists f10; isplitr; · ipureintro; rfl
    iexact H10
  isplitl [H11]
  · iexists _; isplitr
    swap; · iexact H11
    ipureintro
    refine (View.read_writes_cons_put arg11.view f11 (k0_off1_inb i) _ [] (k0_off1_eq i)).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    refine congrArg (VecWindow.put (arg11.view.read (Elt F) f11) ![0, 512 * (i 0).val] S256x512.size) ?_
    exact shapeCast_self _ _
  iexists _; isplitr
  swap; · iexact H12
  ipureintro
  refine (View.read_writes_full (s := S256x128) arg12.view f12 inb_S256x128_S256x128_0_0 _ []).trans ?_
  rw [← View.readAt_full arg2.view f2 (off := ![0, 0]) inb_S256x8192_S256x8192_0_0,
    ← View.readAt_full arg3.view f3 (off := ![0, 0]) inb_S256x1_S256x1_0_0,
    ← View.readAt_full arg4.view f4 (off := ![0, 0]) inb_S8192x512_S8192x512_0_0,
    ← View.readAt_full arg5.view f5 (off := ![0, 0]) inb_S1x512_S1x512_0_0,
    ← View.readAt_full arg6.view f6 (off := ![0, 0]) inb_S256x512_S256x512_0_0]
  rw [← View.readAt_full arg12.view f12 (off := ![0, 0]) inb_S256x128_S256x128_0_0]
  rfl

/-- The last step: as a middle one, and then the codes and scales of all rows are computed from the scratch copy and the sums. -/
theorem sound_last (h1 : ¬ Scalar.cmpi .ne (Scalar.extui (Scalar.cmpi .eq (BitVec.ofNat 32 (i 0).val) 0#32)) 0#32 = 1#1) (h2 : Scalar.cmpi .ne (Scalar.extui (Scalar.cmpi .sgt (BitVec.ofNat 32 (i 0).val) 0#32)) 0#32 = 1#1) (h3 : k0_cond3 i = 1#1) (K : PUnit → sProp 𝕄) :
    iprop(tbPt0 c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12
        ∗ (iprop(tbPt0 c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay1 (k0_pay14 x2 x4 x3 x5) (maskOf c arg1 f1) x6) ∗ owns (c : Thread nD τ) arg9 fullShare (codesOf x7 (VecWindow.put x11 (![0, 512 * (i 0).val] : Fin 2 → ℕ) S256x512.size (k0_pay1 (k0_pay14 x2 x4 x3 x5) (maskOf c arg1 f1) x6)) (k0_pay5 (k0_pay14 x2 x4 x3 x5) (maskOf c arg1 f1) x6 x12)) ∗ owns (c : Thread nD τ) arg10 fullShare (scaleOf x7 (VecWindow.put x11 (![0, 512 * (i 0).val] : Fin 2 → ℕ) S256x512.size (k0_pay1 (k0_pay14 x2 x4 x3 x5) (maskOf c arg1 f1) x6)) (k0_pay5 (k0_pay14 x2 x4 x3 x5) (maskOf c arg1 f1) x6 x12)) ∗ owns (c : Thread nD τ) arg11 fullShare (VecWindow.put x11 (![0, 512 * (i 0).val] : Fin 2 → ℕ) S256x512.size (k0_pay1 (k0_pay14 x2 x4 x3 x5) (maskOf c arg1 f1) x6)) ∗ owns (c : Thread nD τ) arg12 fullShare (k0_pay5 (k0_pay14 x2 x4 x3 x5) (maskOf c arg1 f1) x6 x12)) -∗ K ⟨⟩))
      ⊢ wp frame (wpE (defs₀ (F := F)) Variants.none c none) E (cc0_oproj_rmsnorm_quant i arg1 harg1 arg2 harg2 arg3 harg3 arg4 harg4 arg5 harg5 arg6 harg6 arg7 harg7 arg8 harg8 arg9 harg9 arg10 harg10 arg11 harg11 arg12 harg12) K := by
  simp only [cc0_oproj_rmsnorm_quant_eq_skeleton]; unfold cc0_oproj_rmsnorm_quant_skel
  simp only [k0_part2_eq_skeleton]; unfold k0_part2_skel
  unfold owns
  iintro ⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  subst hf2 hf3 hf4 hf5 hf6 hf7 hf11 hf12
  sl_exec
  sl_step
  have e12 : arg12.view.read (Elt F) (arg12.view.writes (Elt F) arg12.view.junk
        (sound_last.sl.H12_1 c i arg1 arg2 arg3 arg4 arg5 arg6 arg12 f1 f2 f3 f4 f5 f6 f12))
      = k0_pay5 (k0_pay14 (arg2.view.read (Elt F) f2) (arg4.view.read (Elt F) f4) (arg3.view.read (Elt F) f3) (arg5.view.read (Elt F) f5))
          (maskOf c arg1 f1) (arg6.view.read (Elt F) f6) (arg12.view.read (Elt F) f12) := by
    unfold sound_last.sl.H12_1
    refine (View.read_writes_full (s := S256x128) arg12.view _ inb_S256x128_S256x128_0_0 _ []).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    rw [← View.readAt_full arg12.view f12 (off := ![0, 0]) inb_S256x128_S256x128_0_0]
    rfl
  iapply Hk
  isplitl [H1]; · iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    unfold sound_last.sl.H8_1
    refine (View.read_writes_full (s := S256x512) arg8.view _ inb_S256x512_S256x512_0_0 _ []).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    rfl
  isplitl [H9]
  · iexists _; isplitr
    swap; · iexact H9
    ipureintro
    refine (pb_codes Variants.none c none i arg1 harg1 arg2 harg2 arg3 harg3 arg4 harg4 arg5 harg5 arg6 harg6 arg7 harg7 arg8 harg8 arg9 harg9 arg10 harg10 arg11 harg11 arg12 harg12 h3 _ _ _ _).trans ?_
    refine congrArg₂ (codesOf (arg7.view.read (Elt F) f7)) ?_ ?_
    · refine (View.read_writes_cons_put arg11.view f11 (k0_off1_inb i) _ [] (k0_off1_eq i)).trans ?_
      rw [← View.readAt_full arg2.view f2 (off := ![0, 0]) inb_S256x8192_S256x8192_0_0,
        ← View.readAt_full arg3.view f3 (off := ![0, 0]) inb_S256x1_S256x1_0_0,
        ← View.readAt_full arg4.view f4 (off := ![0, 0]) inb_S8192x512_S8192x512_0_0,
        ← View.readAt_full arg5.view f5 (off := ![0, 0]) inb_S1x512_S1x512_0_0,
        ← View.readAt_full arg6.view f6 (off := ![0, 0]) inb_S256x512_S256x512_0_0]
      refine congrArg (VecWindow.put (arg11.view.read (Elt F) f11) ![0, 512 * (i 0).val] S256x512.size) ?_
      exact shapeCast_self _ _
    · exact e12
  isplitl [H10]
  · iexists _; isplitr
    swap; · iexact H10
    ipureintro
    refine (pb_scale Variants.none c none i arg1 harg1 arg2 harg2 arg3 harg3 arg4 harg4 arg5 harg5 arg6 harg6 arg7 harg7 arg8 harg8 arg9 harg9 arg10 harg10 arg11 harg11 arg12 harg12 h3 _ _ _ _).trans ?_
    refine congrArg₂ (scaleOf (arg7.view.read (Elt F) f7)) ?_ ?_
    · refine (View.read_writes_cons_put arg11.view f11 (k0_off1_inb i) _ [] (k0_off1_eq i)).trans ?_
      rw [← View.readAt_full arg2.view f2 (off := ![0, 0]) inb_S256x8192_S256x8192_0_0,
        ← View.readAt_full arg3.view f3 (off := ![0, 0]) inb_S256x1_S256x1_0_0,
        ← View.readAt_full arg4.view f4 (off := ![0, 0]) inb_S8192x512_S8192x512_0_0,
        ← View.readAt_full arg5.view f5 (off := ![0, 0]) inb_S1x512_S1x512_0_0,
        ← View.readAt_full arg6.view f6 (off := ![0, 0]) inb_S256x512_S256x512_0_0]
      refine congrArg (VecWindow.put (arg11.view.read (Elt F) f11) ![0, 512 * (i 0).val] S256x512.size) ?_
      exact shapeCast_self _ _
    · exact e12
  isplitl [H11]
  · iexists _; isplitr
    swap; · iexact H11
    ipureintro
    refine (View.read_writes_cons_put arg11.view f11 (k0_off1_inb i) _ [] (k0_off1_eq i)).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    refine congrArg (VecWindow.put (arg11.view.read (Elt F) f11) ![0, 512 * (i 0).val] S256x512.size) ?_
    exact shapeCast_self _ _
  iexists _; isplitr
  swap; · iexact H12
  ipureintro
  exact e12

end Cert.Kernel.Gen

end
-- ==== Proof.KernelData.lean ====
/- What the kernel's buffers hold at each step of the grid, as the proof data of its one pipelined region: the output
   block of a step, the scratch copy of the residual stream, the partial sums of squares, the codes and the scales. -/
module

public import proofs.«01_k».proof.Proof.KernelStep
public import Idealize.ShloMosaic.Lib.Pipeline.ArrRel

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No index map reads the table: every table's contents are admissible. -/
theorem okT : Ok (F := F) m := by unfold Ok ok0; trivial

/-- The pipeline at the table's contents. -/
abbrev cfgK : Pipeline.Cfg sig Λ₀ := cfgM m (okT m)

/-- Input window `w`'s block at a step. -/
abbrev blkK (c : Dev nD) (w : Fin (cfgK m).W) (t : Fin (cfgK m).N) := iblk m (okT m) c w t

/-- Step `n` as a grid point. -/
def pt (n : ℕ) : Fin (cfgK m).N := ⟨n % 10, by show n % 10 < grid0.N; rw [N_0]; omega⟩

/-- Point `t` of the grid, found again by its number. -/
theorem pt_val (t : Fin (cfgK m).N) : pt m t.val = t := by
  have h : t.val < grid0.N := t.isLt
  rw [N_0] at h
  exact Fin.ext (Nat.mod_eq_of_lt h)

/-- The matrix product of a step's weight block, scaled by row and column. -/
def accB (c : Dev nD) (t : Fin (cfgK m).N) : FVec F S256x512 .f32 :=
  k0_pay14 (blkK m c 0 t) (blkK m c 2 t) (blkK m c 1 t) (blkK m c 3 t)

/-- Which rows are valid. -/
def maskB (c : Dev nD) : IVec S256x1 1 := maskOf (F := F) c tbM0_0 (tbl m 0)

/-- The block of the summed residual stream a step writes. -/
def hB (c : Dev nD) (t : Fin (cfgK m).N) : FVec F S256x512 .bf16 := k0_pay1 (accB m c t) (maskB m c) (blkK m c 4 t)

/-- The partial sums of squares after step `n`. -/
def ssqAt (c : Dev nD) : ℕ → FVec F S256x128 .f32
  | 0 => k0_pay4 (accB m c (pt m 0)) (maskB m c) (blkK m c 4 (pt m 0))
  | n + 1 => k0_pay5 (accB m c (pt m (n + 1))) (maskB m c) (blkK m c 4 (pt m (n + 1))) (ssqAt c n)

/-- The summed residual stream, all columns. -/
def hAll (c : Dev nD) : Vec F S256x5120 .bf16 :=
  fun y => hB m c (pt m ((y 1).val / 512)) (ix2 (y 0) ⟨(y 1).val % 512, by omega⟩)

/-- The codes. -/
def codesV (c : Dev nD) : Vec F S256x5120 .fp8e4m3 := codesOf (blkK m c 5 (pt m 9)) (hAll m c) (ssqAt m c 9)

/-- The scales. -/
def scaleV (c : Dev nD) : Vec F S256x1 .f32 := scaleOf (blkK m c 5 (pt m 9)) (hAll m c) (ssqAt m c 9)

/-- Before step `t` the first `512 t` columns of the scratch copy are written, and the sums are those of step `t - 1`. -/
def inv (c : Dev nD) (t : ℕ) : sProp 𝕄 :=
  iprop(tbPt0 c tbM0_0 (tbl m 0) ∗ (∃ r, prngReg c r)
    ∗ (∃ X : Vec F S256x5120 .bf16, ⌜∀ y : S256x5120.Idx, (y 1).val < 512 * t → X y = hAll m c y⌝ ∗ owns (c : Thread nD τ) (Memref.whole cc0_scratch0) fullShare X)
    ∗ (∃ S : Vec F S256x128 .f32, ⌜∀ n, t = n + 1 → S = ssqAt m c n⌝ ∗ owns (c : Thread nD τ) (Memref.whole cc0_scratch1) fullShare S))

/-- The proof data: an input's staging buffer is left as found, the output block is the step's, and the codes and the
    scales are there after the last step. -/
def rdat (c : Dev nD) : Pipeline.RDat τ (Elt F) Unit ℕ (UR sig nD τ) ℕ (cfgK m) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => X = hB m c t
    | ⟨7, _⟩ => fun _ X => t.val = 9 → X = codesV m c
    | ⟨8, _⟩ => fun _ X => t.val = 9 → X = scaleV m c
  Φ t := inv m c t.val
  q _ := fullShare
  owed _ := 0

/-- Window 0 is left as it was found. -/
theorem rafter0 (c : Dev nD) (t : Fin (cfgK m).N) : (rdat m c).after 0 t = fun Y X => X = Y := by dsimp only [rdat]; rfl
/-- Window 1 is left as it was found. -/
theorem rafter1 (c : Dev nD) (t : Fin (cfgK m).N) : (rdat m c).after 1 t = fun Y X => X = Y := by dsimp only [rdat]; rfl
/-- Window 2 is left as it was found. -/
theorem rafter2 (c : Dev nD) (t : Fin (cfgK m).N) : (rdat m c).after 2 t = fun Y X => X = Y := by dsimp only [rdat]; rfl
/-- Window 3 is left as it was found. -/
theorem rafter3 (c : Dev nD) (t : Fin (cfgK m).N) : (rdat m c).after 3 t = fun Y X => X = Y := by dsimp only [rdat]; rfl
/-- Window 4 is left as it was found. -/
theorem rafter4 (c : Dev nD) (t : Fin (cfgK m).N) : (rdat m c).after 4 t = fun Y X => X = Y := by dsimp only [rdat]; rfl
/-- Window 5 is left as it was found. -/
theorem rafter5 (c : Dev nD) (t : Fin (cfgK m).N) : (rdat m c).after 5 t = fun Y X => X = Y := by dsimp only [rdat]; rfl
/-- Window 6 is left at the block of the stream of its step. -/
theorem rafter6 (c : Dev nD) (t : Fin (cfgK m).N) : (rdat m c).after 6 t = fun _ X => X = hB m c t := by dsimp only [rdat]; rfl
/-- Window 7 is left at the codes by the last step. -/
theorem rafter7 (c : Dev nD) (t : Fin (cfgK m).N) : (rdat m c).after 7 t = fun _ X => t.val = 9 → X = codesV m c := by dsimp only [rdat]; rfl
/-- Window 8 is left at the scales by the last step. -/
theorem rafter8 (c : Dev nD) (t : Fin (cfgK m).N) : (rdat m c).after 8 t = fun _ X => t.val = 9 → X = scaleV m c := by dsimp only [rdat]; rfl

/-- The array of a window is the one the host left in it. -/
theorem rA_eq (c : Dev nD) (w : Fin (cfgK m).W) : (rdat m c).A w = V m c (Pipeline.arrRef spec0 w) := by dsimp only [rdat]

/-- Input window 0 is found at its block. -/
theorem finds0 (c : Dev nD) (t : Fin (cfgK m).N) (Y) (h : (rdat m c).Finds 0 t Y) : Y = blkK m c 0 t := by
  obtain ⟨d, hd⟩ := (rdat m c).finds_in_eq_fetched 0 rfl (fun _ _ _ => rfl) (fun t Y X h => by rw [rafter0] at h; exact h) t Y h
  rw [hd]; unfold Pipeline.RDat.fetched Pipeline.RDat.blockOf blkK iblk; rw [rA_eq]; rfl

/-- Input window 1 is found at its block. -/
theorem finds1 (c : Dev nD) (t : Fin (cfgK m).N) (Y) (h : (rdat m c).Finds 1 t Y) : Y = blkK m c 1 t := by
  obtain ⟨d, hd⟩ := (rdat m c).finds_in_eq_fetched 1 rfl (fun _ _ _ => rfl) (fun t Y X h => by rw [rafter1] at h; exact h) t Y h
  rw [hd]; unfold Pipeline.RDat.fetched Pipeline.RDat.blockOf blkK iblk; rw [rA_eq]; rfl

/-- Input window 2 is found at its block. -/
theorem finds2 (c : Dev nD) (t : Fin (cfgK m).N) (Y) (h : (rdat m c).Finds 2 t Y) : Y = blkK m c 2 t := by
  obtain ⟨d, hd⟩ := (rdat m c).finds_in_eq_fetched 2 rfl (fun _ _ _ => rfl) (fun t Y X h => by rw [rafter2] at h; exact h) t Y h
  rw [hd]; unfold Pipeline.RDat.fetched Pipeline.RDat.blockOf blkK iblk; rw [rA_eq]; rfl

/-- Input window 3 is found at its block. -/
theorem finds3 (c : Dev nD) (t : Fin (cfgK m).N) (Y) (h : (rdat m c).Finds 3 t Y) : Y = blkK m c 3 t := by
  obtain ⟨d, hd⟩ := (rdat m c).finds_in_eq_fetched 3 rfl (fun _ _ _ => rfl) (fun t Y X h => by rw [rafter3] at h; exact h) t Y h
  rw [hd]; unfold Pipeline.RDat.fetched Pipeline.RDat.blockOf blkK iblk; rw [rA_eq]; rfl

/-- Input window 4 is found at its block. -/
theorem finds4 (c : Dev nD) (t : Fin (cfgK m).N) (Y) (h : (rdat m c).Finds 4 t Y) : Y = blkK m c 4 t := by
  obtain ⟨d, hd⟩ := (rdat m c).finds_in_eq_fetched 4 rfl (fun _ _ _ => rfl) (fun t Y X h => by rw [rafter4] at h; exact h) t Y h
  rw [hd]; unfold Pipeline.RDat.fetched Pipeline.RDat.blockOf blkK iblk; rw [rA_eq]; rfl

/-- Input window 5 is found at its block. -/
theorem finds5 (c : Dev nD) (t : Fin (cfgK m).N) (Y) (h : (rdat m c).Finds 5 t Y) : Y = blkK m c 5 t := by
  obtain ⟨d, hd⟩ := (rdat m c).finds_in_eq_fetched 5 rfl (fun _ _ _ => rfl) (fun t Y X h => by rw [rafter5] at h; exact h) t Y h
  rw [hd]; unfold Pipeline.RDat.fetched Pipeline.RDat.blockOf blkK iblk; rw [rA_eq]; rfl

end Cert.Kernel.Gen

end
-- ==== Proof.KernelRun.lean ====
/- The kernel's run: the body obligation at every step, and what every final state holds. -/
module

public import proofs.«01_k».proof.Proof.KernelData

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The coordinate of a step is its number. -/
theorem coords_val : ∀ t : Fin grid0.N, (grid0.coords t 0).val = t.val := by decide +kernel
/-- The first branch is taken at step 0. -/
theorem cond_first : ∀ t : Fin grid0.N, (Scalar.cmpi .ne (Scalar.extui (Scalar.cmpi .eq (BitVec.ofNat 32 (grid0.coords t 0).val) 0#32)) 0#32 = 1#1) ↔ t.val = 0 := by decide +kernel
/-- The second branch is taken after step 0. -/
theorem cond_later : ∀ t : Fin grid0.N, (Scalar.cmpi .ne (Scalar.extui (Scalar.cmpi .sgt (BitVec.ofNat 32 (grid0.coords t 0).val) 0#32)) 0#32 = 1#1) ↔ ¬ t.val = 0 := by decide +kernel
/-- The third branch is taken at step 9. -/
theorem cond_last : ∀ t : Fin grid0.N, k0_cond3 (grid0.coords t) = 1#1 ↔ t.val = 9 := by decide +kernel

variable (m : (ℓ : Loc nD τ sig) → Buf (Elt F) ℓ) (ρ : Dev nD → PrngReg)

/-- Writing a step's block into the scratch copy extends the written columns by 512. -/
theorem put_hAll (c : Dev nD) (t : Fin (cfgK m).N) (X : Vec F S256x5120 .bf16)
    (hX : ∀ y : S256x5120.Idx, (y 1).val < 512 * t.val → X y = hAll m c y) (y : S256x5120.Idx)
    (hy : (y 1).val < 512 * (t.val + 1)) :
    VecWindow.put X (![0, 512 * (grid0.coords t 0).val] : Fin 2 → ℕ) S256x512.size (hB m c t) y = hAll m c y := by
  have ht : (grid0.coords t 0).val = t.val := coords_val t
  rw [ht]
  have h0 : (y 0).val < 256 := (y 0).isLt
  unfold VecWindow.put
  split
  · next h =>
    have h1 := (h 1).1
    have h1' : 512 * t.val ≤ (y 1).val := h1
    have e1 : (y 1).val / 512 = t.val := by omega
    have e2 : (y 1).val % 512 = (y 1).val - 512 * t.val := by omega
    unfold hAll
    rw [e1, pt_val]
    congr 1
    funext a; apply Fin.ext
    fin_cases a
    · show (y 0).val - 0 = (y 0).val
      omega
    · show (y 1).val - 512 * t.val = (y 1).val % 512
      omega
  · next h =>
    refine hX y ?_
    by_contra hc
    refine h (Fin.forall_fin_two.mpr ⟨⟨Nat.zero_le _, ?_⟩, ⟨?_, ?_⟩⟩)
    · show (y 0).val < 0 + 256
      omega
    · show 512 * t.val ≤ (y 1).val
      omega
    · show (y 1).val < 512 * t.val + 512
      omega

/-- After the last step's write the scratch copy is the whole residual stream. -/
theorem put_last (c : Dev nD) (t : Fin (cfgK m).N) (ht : t.val = 9) (X : Vec F S256x5120 .bf16)
    (hX : ∀ y : S256x5120.Idx, (y 1).val < 512 * t.val → X y = hAll m c y) :
    VecWindow.put X (![0, 512 * (grid0.coords t 0).val] : Fin 2 → ℕ) S256x512.size (hB m c t) = hAll m c := by
  funext y
  have h1 : (y 1).val < 5120 := (y 1).isLt
  exact put_hAll m c t X hX y (by omega)

/-- The partial sums after step 0. -/
theorem ssqAt_zero (c : Dev nD) (t : Fin (cfgK m).N) (ht : t.val = 0) :
    k0_pay4 (accB m c t) (maskB m c) (blkK m c 4 t) = ssqAt m c 0 := by
  have e : pt m 0 = t := by rw [← ht]; exact pt_val m t
  unfold ssqAt; rw [e]

/-- The partial sums after a later step. -/
theorem ssqAt_succ (c : Dev nD) (t : Fin (cfgK m).N) (n : ℕ) (ht : t.val = n + 1) :
    k0_pay5 (accB m c t) (maskB m c) (blkK m c 4 t) (ssqAt m c n) = ssqAt m c (n + 1) := by
  have e : pt m (n + 1) = t := by rw [← ht]; exact pt_val m t
  rw [ssqAt, e]

/-- What the body is handed at a step. -/
def bodyPre (c : Dev nD) (t : Fin (cfgK m).N) (Y : (w : Fin (cfgK m).W) → ((cfgK m).win w).block.Idx → Elt F ((cfgK m).win w).elt) : sProp 𝕄 :=
  iprop(inv m c t.val ∗ (rdat m c).owesAt () t.castSucc
    ∗ owns (c : Thread nD τ) (((cfgK m).win 0).stage ((cfgK m).slots t 0)) fullShare (Y 0) ∗ owns (c : Thread nD τ) (((cfgK m).win 1).stage ((cfgK m).slots t 1)) fullShare (Y 1) ∗ owns (c : Thread nD τ) (((cfgK m).win 2).stage ((cfgK m).slots t 2)) fullShare (Y 2) ∗ owns (c : Thread nD τ) (((cfgK m).win 3).stage ((cfgK m).slots t 3)) fullShare (Y 3) ∗ owns (c : Thread nD τ) (((cfgK m).win 4).stage ((cfgK m).slots t 4)) fullShare (Y 4) ∗ owns (c : Thread nD τ) (((cfgK m).win 5).stage ((cfgK m).slots t 5)) fullShare (Y 5) ∗ owns (c : Thread nD τ) (((cfgK m).win 6).stage ((cfgK m).slots t 6)) fullShare (Y 6) ∗ owns (c : Thread nD τ) (((cfgK m).win 7).stage ((cfgK m).slots t 7)) fullShare (Y 7) ∗ owns (c : Thread nD τ) (((cfgK m).win 8).stage ((cfgK m).slots t 8)) fullShare (Y 8))

/-- What it leaves. -/
def bodyPost (c : Dev nD) (t : Fin (cfgK m).N) (Y : (w : Fin (cfgK m).W) → ((cfgK m).win w).block.Idx → Elt F ((cfgK m).win w).elt) : sProp 𝕄 :=
  iprop(inv m c (t.val + 1) ∗ (rdat m c).owesAt () t.succ
    ∗ (∃ X, ⌜(rdat m c).after 0 t (Y 0) X⌝ ∗ owns (c : Thread nD τ) (((cfgK m).win 0).stage ((cfgK m).slots t 0)) fullShare X) ∗ (∃ X, ⌜(rdat m c).after 1 t (Y 1) X⌝ ∗ owns (c : Thread nD τ) (((cfgK m).win 1).stage ((cfgK m).slots t 1)) fullShare X) ∗ (∃ X, ⌜(rdat m c).after 2 t (Y 2) X⌝ ∗ owns (c : Thread nD τ) (((cfgK m).win 2).stage ((cfgK m).slots t 2)) fullShare X) ∗ (∃ X, ⌜(rdat m c).after 3 t (Y 3) X⌝ ∗ owns (c : Thread nD τ) (((cfgK m).win 3).stage ((cfgK m).slots t 3)) fullShare X) ∗ (∃ X, ⌜(rdat m c).after 4 t (Y 4) X⌝ ∗ owns (c : Thread nD τ) (((cfgK m).win 4).stage ((cfgK m).slots t 4)) fullShare X) ∗ (∃ X, ⌜(rdat m c).after 5 t (Y 5) X⌝ ∗ owns (c : Thread nD τ) (((cfgK m).win 5).stage ((cfgK m).slots t 5)) fullShare X) ∗ (∃ X, ⌜(rdat m c).after 6 t (Y 6) X⌝ ∗ owns (c : Thread nD τ) (((cfgK m).win 6).stage ((cfgK m).slots t 6)) fullShare X) ∗ (∃ X, ⌜(rdat m c).after 7 t (Y 7) X⌝ ∗ owns (c : Thread nD τ) (((cfgK m).win 7).stage ((cfgK m).slots t 7)) fullShare X) ∗ (∃ X, ⌜(rdat m c).after 8 t (Y 8) X⌝ ∗ owns (c : Thread nD τ) (((cfgK m).win 8).stage ((cfgK m).slots t 8)) fullShare X))

/-- The body at the first step. -/
theorem body_first (c : Dev nD) (t : Fin (cfgK m).N) (Y) (hY : ∀ w, (rdat m c).Finds w t (Y w)) (ht : t.val = 0) :
    bodyPre m c t Y ⊢ wp frame (wpE (defs₀ (F := F)) Variants.none c none) Set.univ (bodyAt0 (adm m (okT m)) t) (fun _ => bodyPost m c t Y) := by
  unfold bodyPre bodyPost bodyAt0
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  rw [e0, e1, e2, e3, e4, e5]
  rw [show (rdat m c).owesAt () t.succ = (rdat m c).owesAt () t.castSucc from rfl, rafter0, rafter1, rafter2, rafter3, rafter4, rafter5, rafter6, rafter7, rafter8]
  unfold inv
  iintro ⟨⟨HT, Hp, ⟨%X, %hX, HX⟩, ⟨%S, %hS, HS⟩⟩, Ho, H0, H1, H2, H3, H4, H5, H6, H7, H8⟩
  iapply (sound_first c Set.univ (grid0.coords t) _ _ _ _ _ _ _ _ _ _ _ _ _ _ _ _ _ _ _ _ _ _ _ _ (tbl m 0) (blkK m c 0 t) (blkK m c 1 t) (blkK m c 2 t) (blkK m c 3 t) (blkK m c 4 t) (blkK m c 5 t) X S ((cond_first t).mpr ht) (fun h => (cond_later t).mp h ht) (fun h => by have := (cond_last t).mp h; omega) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HX]; · iexact HX
  isplitl [HS]; · iexact HS
  iintro ⟨HT, H0, H1, H2, H3, H4, H5, H6, ⟨%d7, H7⟩, ⟨%d8, H8⟩, HX, HS⟩
  isplitl [HT Hp HX HS]
  · isplitl [HT]; · iexact HT
    isplitl [Hp]; · iexact Hp
    isplitl [HX]
    · iexists _; isplitr
      swap; · iexact HX
      ipureintro
      exact fun y hy => put_hAll m c t X hX y hy
    iexists _; isplitr
    swap; · iexact HS
    ipureintro
    intro n hn
    obtain rfl : n = 0 := by omega
    exact ssqAt_zero m c t ht
  isplitl [Ho]; · iexact Ho
  isplitl [H0]
  · iexists _; isplitr
    swap; · iexact H0
    ipureintro; exact rfl
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  isplitl [H7]
  · iexists _; isplitr
    swap; · iexact H7
    ipureintro; exact fun h => absurd h (by omega)
  iexists _; isplitr
  swap; · iexact H8
  ipureintro; exact fun h => absurd h (by omega)

/-- The body at a step between. -/
theorem body_mid (c : Dev nD) (t : Fin (cfgK m).N) (Y) (hY : ∀ w, (rdat m c).Finds w t (Y w)) (h0 : ¬ t.val = 0) (h9 : ¬ t.val = 9) :
    bodyPre m c t Y ⊢ wp frame (wpE (defs₀ (F := F)) Variants.none c none) Set.univ (bodyAt0 (adm m (okT m)) t) (fun _ => bodyPost m c t Y) := by
  unfold bodyPre bodyPost bodyAt0
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  rw [e0, e1, e2, e3, e4, e5]
  rw [show (rdat m c).owesAt () t.succ = (rdat m c).owesAt () t.castSucc from rfl, rafter0, rafter1, rafter2, rafter3, rafter4, rafter5, rafter6, rafter7, rafter8]
  unfold inv
  iintro ⟨⟨HT, Hp, ⟨%X, %hX, HX⟩, ⟨%S, %hS, HS⟩⟩, Ho, H0, H1, H2, H3, H4, H5, H6, H7, H8⟩
  obtain ⟨k, hk⟩ : ∃ k, t.val = k + 1 := ⟨t.val - 1, by omega⟩
  have hS' := hS k hk
  subst hS'
  iapply (sound_mid c Set.univ (grid0.coords t) _ _ _ _ _ _ _ _ _ _ _ _ _ _ _ _ _ _ _ _ _ _ _ _ (tbl m 0) (blkK m c 0 t) (blkK m c 1 t) (blkK m c 2 t) (blkK m c 3 t) (blkK m c 4 t) (blkK m c 5 t) X (ssqAt m c k) (fun h => h0 ((cond_first t).mp h)) ((cond_later t).mpr h0) (fun h => h9 ((cond_last t).mp h)) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HX]; · iexact HX
  isplitl [HS]; · iexact HS
  iintro ⟨HT, H0, H1, H2, H3, H4, H5, H6, ⟨%d7, H7⟩, ⟨%d8, H8⟩, HX, HS⟩
  isplitl [HT Hp HX HS]
  · isplitl [HT]; · iexact HT
    isplitl [Hp]; · iexact Hp
    isplitl [HX]
    · iexists _; isplitr
      swap; · iexact HX
      ipureintro
      exact fun y hy => put_hAll m c t X hX y hy
    iexists _; isplitr
    swap; · iexact HS
    ipureintro
    intro n hn
    obtain rfl : n = k + 1 := by omega
    exact ssqAt_succ m c t k hk
  isplitl [Ho]; · iexact Ho
  isplitl [H0]
  · iexists _; isplitr
    swap; · iexact H0
    ipureintro; exact rfl
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  isplitl [H7]
  · iexists _; isplitr
    swap; · iexact H7
    ipureintro; exact fun h => absurd h h9
  iexists _; isplitr
  swap; · iexact H8
  ipureintro; exact fun h => absurd h h9

/-- The body at the last step. -/
theorem body_last (c : Dev nD) (t : Fin (cfgK m).N) (Y) (hY : ∀ w, (rdat m c).Finds w t (Y w)) (ht : t.val = 9) :
    bodyPre m c t Y ⊢ wp frame (wpE (defs₀ (F := F)) Variants.none c none) Set.univ (bodyAt0 (adm m (okT m)) t) (fun _ => bodyPost m c t Y) := by
  unfold bodyPre bodyPost bodyAt0
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  rw [e0, e1, e2, e3, e4, e5]
  rw [show (rdat m c).owesAt () t.succ = (rdat m c).owesAt () t.castSucc from rfl, rafter0, rafter1, rafter2, rafter3, rafter4, rafter5, rafter6, rafter7, rafter8]
  unfold inv
  iintro ⟨⟨HT, Hp, ⟨%X, %hX, HX⟩, ⟨%S, %hS, HS⟩⟩, Ho, H0, H1, H2, H3, H4, H5, H6, H7, H8⟩
  obtain ⟨k, hk⟩ : ∃ k, t.val = k + 1 := ⟨t.val - 1, by omega⟩
  have hS' := hS k hk
  subst hS'
  iapply (sound_last c Set.univ (grid0.coords t) _ _ _ _ _ _ _ _ _ _ _ _ _ _ _ _ _ _ _ _ _ _ _ _ (tbl m 0) (blkK m c 0 t) (blkK m c 1 t) (blkK m c 2 t) (blkK m c 3 t) (blkK m c 4 t) (blkK m c 5 t) X (ssqAt m c k) (fun h => by have := (cond_first t).mp h; omega) ((cond_later t).mpr (by omega)) ((cond_last t).mpr ht) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HX]; · iexact HX
  isplitl [HS]; · iexact HS
  iintro ⟨HT, H0, H1, H2, H3, H4, H5, H6, H7, H8, HX, HS⟩
  isplitl [HT Hp HX HS]
  · isplitl [HT]; · iexact HT
    isplitl [Hp]; · iexact Hp
    isplitl [HX]
    · iexists _; isplitr
      swap; · iexact HX
      ipureintro
      exact fun y hy => put_hAll m c t X hX y hy
    iexists _; isplitr
    swap; · iexact HS
    ipureintro
    intro n hn
    obtain rfl : n = k + 1 := by omega
    exact ssqAt_succ m c t k hk
  isplitl [Ho]; · iexact Ho
  isplitl [H0]
  · iexists _; isplitr
    swap; · iexact H0
    ipureintro; exact rfl
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  isplitl [H7]
  · iexists _; isplitr
    swap; · iexact H7
    ipureintro; intro _
    obtain rfl : k = 8 := by omega
    have e9 : pt m 9 = t := by rw [← ht]; exact pt_val m t
    unfold codesV; rw [e9]
    exact congrArg₂ (codesOf (blkK m c 5 t)) (put_last m c t ht X hX) (ssqAt_succ m c t 8 hk)
  iexists _; isplitr
  swap; · iexact H8
  ipureintro; intro _
  obtain rfl : k = 8 := by omega
  have e9 : pt m 9 = t := by rw [← ht]; exact pt_val m t
  unfold scaleV; rw [e9]
  exact congrArg₂ (scaleOf (blkK m c 5 t)) (put_last m c t ht X hX) (ssqAt_succ m c t 8 hk)

/-- The body of a step is the body of the launch at that step. -/
theorem defs₀_row (t : Fin (cfgK m).N) :
    defs₀ (F := F) .tc (cfgK m).body ((cfgK m).bodyArgs t ((cfgK m).slots t)) = bodyAt0 (adm m (okT m)) t := by
  unfold defs₀; rw [Defs.onTc_tc]

/-- The body obligation at every step. -/
theorem body_obligation (c : Dev nD) : (rdat m c).BodyObligation (defs₀ (F := F)) Variants.none () Set.univ := fun t Y hY => by
  rw [bigSep_W0, bigSep_W0, defs₀_row]
  have h : bodyPre m c t Y ⊢ wp frame (wpE (defs₀ (F := F)) Variants.none c none) Set.univ (bodyAt0 (adm m (okT m)) t) (fun _ => bodyPost m c t Y) := by
    by_cases h0 : t.val = 0
    · exact body_first m c t Y hY h0
    · by_cases h9 : t.val = 9
      · exact body_last m c t Y hY h9
      · exact body_mid m c t Y hY h0 h9
  exact triple_restated h rfl .rfl fun _ => .rfl

/-- What the region hands the body at first is the invariant before the first step. -/
theorem inv_in (c : Dev nD) : iprop(Pipeline.ΦA spec0 c ∗ Pipeline.ΦT pre0 (tbl m) c) ⊢ inv (F := F) m c 0 := by
  unfold Pipeline.ΦA inv
  rw [scopedRest0_eq, PhiT0_eq]
  iintro ⟨⟨⟨⟨%f0, H0⟩, ⟨%f1, H1⟩⟩, Hp⟩, HT⟩
  isplitl [HT]; · iexact HT
  isplitl [Hp]; · iexact Hp
  isplitl [H0]
  · iexists f0; isplitr; · ipureintro; exact fun y hy => absurd hy (by omega)
    rw [owns_whole]; iexact H0
  iexists f1; isplitr; · ipureintro; exact fun n hn => absurd hn (by omega)
  rw [owns_whole]; iexact H1

/-- The invariant after the last step gives the scratch buffers back. -/
theorem inv_out (c : Dev nD) (t : ℕ) : inv (F := F) m c t ⊢ Pipeline.ΦA spec0 c := by
  unfold Pipeline.ΦA inv
  rw [scopedRest0_eq]
  iintro ⟨-, Hp, ⟨%X, -, HX⟩, ⟨%S, -, HS⟩⟩
  isplitl [HX HS]
  · isplitl [HX]
    · iexists X; iapply (show owns (c : Thread nD τ) (Memref.whole cc0_scratch0) fullShare X ⊢ (((c : Thread nD τ).loc cc0_scratch0) ↦{fullShare} X : sProp 𝕄) from by rw [owns_whole])
      iexact HX
    iexists S; iapply (show owns (c : Thread nD τ) (Memref.whole cc0_scratch1) fullShare S ⊢ (((c : Thread nD τ).loc cc0_scratch1) ↦{fullShare} S : sProp 𝕄) from by rw [owns_whole])
    iexact HS
  iexact Hp

set_option backward.isDefEq.respectTransparency.types false in
set_option maxHeartbeats 800000 in
/-- Every execution ends, with every array of the region at contents the proof data allows, every other buffer as
    before, and every semaphore counter at zero. -/
theorem run_main_quiescent : θ_run defs (onTc (τ := τ) (main (F := F))) (s₀ m ρ)
    (fun r => Pipeline.RDat.FramePost (cfgK m) (rdat m) (V m) r ∧ r.2.sem = fun _ => 0) :=
  Pipeline.RDat.θ_run_frameP_track (Q' := _) pcfgs (fun _ => adm m (okT m)) (0 : Fin 1) launch0 defs₀ Variants.none (rdat m) m ρ main
    (hbody := fun c => body_obligation m c) (hshare := fun c w => by unfold Pipeline.RDat.share; split <;> rfl)
    (howed := fun _ _ => rfl) (V := V m) (hmain := hmain m Variants.none) (hA := rA_eq m) (hpf := fun c k => V_pre m c k)
    (hin := fun c => inv_in m c) (hout := fun c => inv_out m c _) (hQ' := fun _ h => h)

/-- The argument arrays end unchanged, and every semaphore counter is zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      (h.1.arr_in c 2 rfl).trans ((rA_eq m c 2).trans (V_main_arg2 m c)),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c)⟩, h.2⟩)
    (run_main_quiescent m ρ)

end Cert.Kernel.Gen

end
-- ==== Proof.IdealKit.lean ====
/- The schedule of the kernel's one grid, and what it finds when the region is entered: at which points each window is
   fetched and written back, the current staging buffers, @main up to the region, the arrays and the prefetched table
   there, and each input window's block at a point. -/
module

public import proofs.«01_k».proof.Proof.Gen.KernelIdeal.Launch
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the first point only, at any contents of the tables (its index map reads none). -/
theorem fetch0_0 (a : (pcfg0 (F := F)).Adm) : ∀ t : Fin (cfg0 a).N, ((cfg0 a).win 0).fetch t = true ↔ t.val % 10 = 0 :=
  (fun t => Pipeline.Window.fetchOf_const cc0_transform_0 (fun _ _ => rfl) (n := 10) (by decide) t : ∀ t : Fin grid0.N, Pipeline.Window.fetchOf grid0 false cc0_transform_0 t = true ↔ t.val % 10 = 0)
/-- Window 1 (operand 2 (%1)) is fetched at the first point only, at any contents of the tables (its index map reads none). -/
theorem fetch0_1 (a : (pcfg0 (F := F)).Adm) : ∀ t : Fin (cfg0 a).N, ((cfg0 a).win 1).fetch t = true ↔ t.val % 10 = 0 :=
  (fun t => Pipeline.Window.fetchOf_const cc0_transform_1 (fun _ _ => rfl) (n := 10) (by decide) t : ∀ t : Fin grid0.N, Pipeline.Window.fetchOf grid0 false cc0_transform_1 t = true ↔ t.val % 10 = 0)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (operand 4 (%2)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 1 (fun _ => rfl) (by decide)) (P := 1) (by decide) t).mpr (Nat.mod_one _) : ∀ t : Fin grid0.N, Pipeline.Window.fetchOf grid0 false cc0_transform_3 t = true)
/-- Window 4 (operand 5 (%3)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 1 (fun _ => rfl) (by decide)) (P := 1) (by decide) t).mpr (Nat.mod_one _) : ∀ t : Fin grid0.N, Pipeline.Window.fetchOf grid0 false cc0_transform_4 t = true)
/-- Window 5 (operand 6 (%4)) is fetched at the first point only, at any contents of the tables (its index map reads none). -/
theorem fetch0_5 (a : (pcfg0 (F := F)).Adm) : ∀ t : Fin (cfg0 a).N, ((cfg0 a).win 5).fetch t = true ↔ t.val % 10 = 0 :=
  (fun t => Pipeline.Window.fetchOf_const cc0_transform_5 (fun _ _ => rfl) (n := 10) (by decide) t : ∀ t : Fin grid0.N, Pipeline.Window.fetchOf grid0 false cc0_transform_5 t = true ↔ t.val % 10 = 0)
/-- Window 6 (result 0 (%5#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 1 (fun _ => rfl) (by decide)) (P := 1) (m := 0) (by decide) rfl t).mpr (Nat.mod_one _) : ∀ t : Fin grid0.N, Pipeline.Window.flushOf grid0 true cc0_transform_6 t = true)
/-- Window 7 (result 1 (%5#1)) is written back at the last point only, at any contents of the tables (its index map reads none). -/
theorem flush0_7 (a : (pcfg0 (F := F)).Adm) : ∀ t : Fin (cfg0 a).N, ((cfg0 a).win 7).flush t = true ↔ t.val % 10 = 9 :=
  (fun t => Pipeline.Window.flushOf_const cc0_transform_7 (fun _ _ => rfl) (n := 10) (by decide) rfl t : ∀ t : Fin grid0.N, Pipeline.Window.flushOf grid0 true cc0_transform_7 t = true ↔ t.val % 10 = 9)
/-- Window 8 (result 2 (%5#2)) is written back at the last point only, at any contents of the tables (its index map reads none). -/
theorem flush0_8 (a : (pcfg0 (F := F)).Adm) : ∀ t : Fin (cfg0 a).N, ((cfg0 a).win 8).flush t = true ↔ t.val % 10 = 9 :=
  (fun t => Pipeline.Window.flushOf_const cc0_transform_8 (fun _ _ => rfl) (n := 10) (by decide) rfl t : ∀ t : Fin grid0.N, Pipeline.Window.flushOf grid0 true cc0_transform_8 t = true ↔ t.val % 10 = 9)

/-- The current staging memref of each window at point `t`: which of its buffers it is on. -/
abbrev st0_0 (a : (pcfg0 (F := F)).Adm) (t : Fin (cfg0 a).N) := ((cfg0 a).win 0).stage ((cfg0 a).slots t 0)
/-- The buffer that holds the block of window 1 at step `t`. -/
abbrev st0_1 (a : (pcfg0 (F := F)).Adm) (t : Fin (cfg0 a).N) := ((cfg0 a).win 1).stage ((cfg0 a).slots t 1)
/-- The buffer that holds the block of window 2 at step `t`. -/
abbrev st0_2 (a : (pcfg0 (F := F)).Adm) (t : Fin (cfg0 a).N) := ((cfg0 a).win 2).stage ((cfg0 a).slots t 2)
/-- The buffer that holds the block of window 3 at step `t`. -/
abbrev st0_3 (a : (pcfg0 (F := F)).Adm) (t : Fin (cfg0 a).N) := ((cfg0 a).win 3).stage ((cfg0 a).slots t 3)
/-- The buffer that holds the block of window 4 at step `t`. -/
abbrev st0_4 (a : (pcfg0 (F := F)).Adm) (t : Fin (cfg0 a).N) := ((cfg0 a).win 4).stage ((cfg0 a).slots t 4)
/-- The buffer that holds the block of window 5 at step `t`. -/
abbrev st0_5 (a : (pcfg0 (F := F)).Adm) (t : Fin (cfg0 a).N) := ((cfg0 a).win 5).stage ((cfg0 a).slots t 5)
/-- The buffer that holds the block of window 6 at step `t`. -/
abbrev st0_6 (a : (pcfg0 (F := F)).Adm) (t : Fin (cfg0 a).N) := ((cfg0 a).win 6).stage ((cfg0 a).slots t 6)
/-- The buffer that holds the block of window 7 at step `t`. -/
abbrev st0_7 (a : (pcfg0 (F := F)).Adm) (t : Fin (cfg0 a).N) := ((cfg0 a).win 7).stage ((cfg0 a).slots t 7)
/-- The buffer that holds the block of window 8 at step `t`. -/
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_oproj_rmsnorm_quant (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The operations of the host make no new buffers. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The schedule of the call, from the lengths found at launch. -/
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg6
/-- The lengths are read as one whole buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- Core `c` holds the buffer of the lengths, with contents `f`. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

end Cert.KernelIdeal.Gen

end
-- ==== Proof.IdealChunk.lean ====
/- What one chunk of 32 rows of the last step computes, and the loop over the eight chunks. -/
module

public import proofs.«01_k».proof.Proof.Gen.KernelIdeal.Loops
public import Idealize.ShloMosaic.Lib.VecWindow
public import Idealize.ShloMosaic.Lib.Pointwise
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Rows `32 k … 32 k + 31` of the partial sums of squares. -/
def sumRows (x : Vec F S256x128 .f32) (k : Fin 8) : Vec F S32x128 .f32 :=
  fun y => x (ix2 ⟨32 * k.val + (y 0).val, by have : (y 0).val < 32 := (y 0).isLt; have := k.isLt; omega⟩ (y 1))

/-- Rows `32 k … 32 k + 31` of the summed residual stream. -/
def hRows (x : Vec F S256x5120 .bf16) (k : Fin 8) : Vec F S32x5120 .bf16 :=
  fun y => x (ix2 ⟨32 * k.val + (y 0).val, by have : (y 0).val < 32 := (y 0).isLt; have := k.isLt; omega⟩ (y 1))

/-- The codes of chunk `k`. -/
def chunkCodes (x7 : Vec F S1x5120 .f32) (x11 : Vec F S256x5120 .bf16) (x12 : Vec F S256x128 .f32) (k : Fin 8) :
    FVec F S32x5120 .fp8e4m3 :=
  k0_pay8 (k0_pay9 (sumRows x12 k) (hRows x11 k) x7) (k0_pay11 (sumRows x12 k) (hRows x11 k) x7)
    (k0_pay12 (sumRows x12 k) (hRows x11 k) x7) k0_pay13

/-- The scales of chunk `k`. -/
def chunkScale (x7 : Vec F S1x5120 .f32) (x11 : Vec F S256x5120 .bf16) (x12 : Vec F S256x128 .f32) (k : Fin 8) :
    FVec F S32x1 .f32 :=
  k0_pay7 (k0_pay11 (sumRows x12 k) (hRows x11 k) x7) (k0_pay12 (sumRows x12 k) (hRows x11 k) x7) k0_pay13

/-- The codes of all rows: row `r` is row `r % 32` of chunk `r / 32`. -/
def codesOf (x7 : Vec F S1x5120 .f32) (x11 : Vec F S256x5120 .bf16) (x12 : Vec F S256x128 .f32) :
    Vec F S256x5120 .fp8e4m3 :=
  fun y => chunkCodes x7 x11 x12 ⟨(y 0).val / 32, by have : (y 0).val < 256 := (y 0).isLt; omega⟩
    (ix2 ⟨(y 0).val % 32, by omega⟩ (y 1))

/-- The scales of all rows: row `r` is row `r % 32` of chunk `r / 32`. -/
def scaleOf (x7 : Vec F S1x5120 .f32) (x11 : Vec F S256x5120 .bf16) (x12 : Vec F S256x128 .f32) :
    Vec F S256x1 .f32 :=
  fun y => chunkScale x7 x11 x12 ⟨(y 0).val / 32, by have : (y 0).val < 256 := (y 0).isLt; omega⟩
    (ix2 ⟨(y 0).val % 32, by omega⟩ (y 1))

/-- The loop over the rows has eight passes. -/
theorem trips_eq : k0_t1_loop.trips = 8 := by decide +kernel

/-- A chunk's number. -/
def chunkNo (k : Fin k0_t1_loop.trips) : Fin 8 := ⟨k.val, Nat.lt_of_lt_of_le k.isLt k0_t1_abs.2.1⟩

/-- A read of the 32 rows of a chunk from the partial sums. -/
theorem readAt_sumRows (v : View sig .tc .vmem S256x128 .f32) (f : v.ty.Contents (Elt F)) (k : Fin k0_t1_loop.trips) (inb) :
    v.readAt (Elt F) (Rect.unit (s := S256x128) (k0_off2 k) S32x128.size inb).toLoadRect f
      = sumRows (v.read (Elt F) f) (chunkNo k) := by
  have hk := (chunkNo k).isLt
  funext y
  show v.read (Elt F) f _ = v.read (Elt F) f _
  congr 1
  funext a; apply Fin.ext
  refine (congrArg (fun o : Fin 2 → ℕ => o a + 1 * (y a).val) (k0_off2_eq k)).trans ?_
  fin_cases a
  · show 32 * k.val + 1 * (y 0).val = 32 * k.val + (y 0).val
    omega
  · show 0 + 1 * (y 1).val = (y 1).val
    omega

/-- A read of the 32 rows of a chunk from the stream. -/
theorem readAt_hRows (v : View sig .tc .vmem S256x5120 .bf16) (f : v.ty.Contents (Elt F)) (k : Fin k0_t1_loop.trips) (inb) :
    v.readAt (Elt F) (Rect.unit (s := S256x5120) (k0_off3 k) S32x5120.size inb).toLoadRect f
      = hRows (v.read (Elt F) f) (chunkNo k) := by
  have hk := (chunkNo k).isLt
  funext y
  show v.read (Elt F) f _ = v.read (Elt F) f _
  congr 1
  funext a; apply Fin.ext
  refine (congrArg (fun o : Fin 2 → ℕ => o a + 1 * (y a).val) (k0_off3_eq k)).trans ?_
  fin_cases a
  · show 32 * k.val + 1 * (y 0).val = 32 * k.val + (y 0).val
    omega
  · show 0 + 1 * (y 1).val = (y 1).val
    omega

section

variable (𝒱 : Variants) (c : Dev nD) (bd : Option 𝒱.V) (i : grid0.Coords)
    (arg1 : Memref sig .tc .smem S2 .i32) (harg1 : arg1.IsWhole)
    (arg2 : Memref sig .tc .vmem S256x8192 .fp8e4m3) (harg2 : arg2.IsWhole)
    (arg3 : Memref sig .tc .vmem S256x1 .f32) (harg3 : arg3.IsWhole)
    (arg4 : Memref sig .tc .vmem S8192x512 .fp8e4m3) (harg4 : arg4.IsWhole)
    (arg5 : Memref sig .tc .vmem S1x512 .f32) (harg5 : arg5.IsWhole)
    (arg6 : Memref sig .tc .vmem S256x512 .bf16) (harg6 : arg6.IsWhole)
    (arg7 : Memref sig .tc .vmem S1x5120 .f32) (harg7 : arg7.IsWhole)
    (arg8 : Memref sig .tc .vmem S256x512 .bf16) (harg8 : arg8.IsWhole)
    (arg9 : Memref sig .tc .vmem S256x5120 .fp8e4m3) (harg9 : arg9.IsWhole)
    (arg10 : Memref sig .tc .vmem S256x1 .f32) (harg10 : arg10.IsWhole)
    (arg11 : Memref sig .tc .vmem S256x5120 .bf16) (harg11 : arg11.IsWhole)
    (arg12 : Memref sig .tc .vmem S256x128 .f32) (harg12 : arg12.IsWhole)
    (k0_h3 : k0_cond3 i = 1#1)
    (X7 : BufTy.Contents (Elt F) arg7.view.ty) (X11 : BufTy.Contents (Elt F) arg11.view.ty)
    (X12 : BufTy.Contents (Elt F) arg12.view.ty)

/-- A chunk writes its 32 rows of codes and its 32 scales, and nothing else. -/
theorem tripL_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 k
      = ([⟨Rect.unit (s := S256x5120) (k0_off3 k) S32x5120.size (k0_off3_inb i k k0_h3),
            chunkCodes (arg7.view.read (Elt F) X7) (arg11.view.read (Elt F) X11) (arg12.view.read (Elt F) X12) (chunkNo k)⟩],
         [⟨Rect.unit (s := S256x1) (k0_off4 k) S32x1.size (k0_off4_inb i k k0_h3),
            chunkScale (arg7.view.read (Elt F) X7) (arg11.view.read (Elt F) X11) (arg12.view.read (Elt F) X12) (chunkNo k)⟩]) := by
  unfold tripL_k0_t1 trip_k0_t1 chunkCodes chunkScale
  rw [← readAt_sumRows arg12.view X12 k (k0_off2_inb i k k0_h3), ← readAt_hRows arg11.view X11 k (k0_off3_inb i k k0_h3),
    ← View.readAt_full arg7.view X7 (off := ![0, 0]) inb_S1x5120_S1x5120_0_0]
  rfl

/-- After `n` passes the first `32 n` rows of the codes are written, each with its codes. -/
theorem pb_rows (G9 : BufTy.Contents (Elt F) arg9.view.ty) : ∀ n, n ≤ 8 → ∀ y : S256x5120.Idx, (y 0).val < 32 * n →
    arg9.view.read (Elt F) (arg9.view.writes (Elt F) G9
        (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 n).1) y
      = codesOf (arg7.view.read (Elt F) X7) (arg11.view.read (Elt F) X11) (arg12.view.read (Elt F) X12) y
  | 0, _, y, hy => by omega
  | n + 1, hn, y, hy => by
    have hk : n < k0_t1_loop.trips := by rw [trips_eq]; omega
    have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 ⟨n, hk⟩
    rw [show pb_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 (n + 1) = _ from h, tripL_eq]
    have hy5 : (y 1).val < 5120 := (y 1).isLt
    by_cases hlo : 32 * n ≤ (y 0).val
    · have hx : (y 0).val - 32 * n < 32 := by omega
      refine (View.read_writes_cons_rows_of_mem (d := ![256, 5120]) arg9.view G9 _ _ _ y (ix2 ⟨(y 0).val - 32 * n, hx⟩ (y 1))
        (k0_off3_eq ⟨n, hk⟩) (by show (y 0).val = 32 * n + ((y 0).val - 32 * n); omega) rfl).trans ?_
      have e1 : (y 0).val / 32 = n := by omega
      have e2 : (y 0).val % 32 = (y 0).val - 32 * n := by omega
      unfold codesOf
      exact congrArg₂ (fun k z => chunkCodes (arg7.view.read (Elt F) X7) (arg11.view.read (Elt F) X11)
        (arg12.view.read (Elt F) X12) k (ix2 z (y 1))) (Fin.ext e1.symm) (Fin.ext e2.symm)
    · refine (View.read_writes_cons_rows_of_not_mem (d := ![256, 5120]) arg9.view G9 _ _ _ y
        (k0_off3_eq ⟨n, hk⟩) rfl (Or.inl (by show (y 0).val < 32 * n; omega))).trans ?_
      exact pb_rows G9 n (by omega) y (by omega)

/-- After the loop the codes' buffer holds the codes of all rows. -/
theorem pb_codes (G9 : BufTy.Contents (Elt F) arg9.view.ty) :
    arg9.view.read (Elt F) (arg9.view.writes (Elt F) G9
        (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 k0_t1_loop.trips).1)
      = codesOf (arg7.view.read (Elt F) X7) (arg11.view.read (Elt F) X11) (arg12.view.read (Elt F) X12) := by
  funext y
  exact pb_rows 𝒱 c bd i arg1 harg1 arg2 harg2 arg3 harg3 arg4 harg4 arg5 harg5 arg6 harg6 arg7 harg7 arg8 harg8 arg9 harg9 arg10 harg10 arg11 harg11 arg12 harg12 k0_h3 X7 X11 X12 G9 _ (by rw [trips_eq]) y
    (by rw [trips_eq]; exact (y 0).isLt)

/-- After `n` passes the first `32 n` rows of the scales are written, each with its scale. -/
theorem pb_scales (G10 : BufTy.Contents (Elt F) arg10.view.ty) : ∀ n, n ≤ 8 → ∀ y : S256x1.Idx, (y 0).val < 32 * n →
    arg10.view.read (Elt F) (arg10.view.writes (Elt F) G10
        (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 n).2) y
      = scaleOf (arg7.view.read (Elt F) X7) (arg11.view.read (Elt F) X11) (arg12.view.read (Elt F) X12) y
  | 0, _, y, hy => by omega
  | n + 1, hn, y, hy => by
    have hk : n < k0_t1_loop.trips := by rw [trips_eq]; omega
    have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 ⟨n, hk⟩
    rw [show pb_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 (n + 1) = _ from h, tripL_eq]
    have hy5 : (y 1).val < 1 := (y 1).isLt
    by_cases hlo : 32 * n ≤ (y 0).val
    · have hx : (y 0).val - 32 * n < 32 := by omega
      refine (View.read_writes_cons_rows_of_mem (d := ![256, 1]) arg10.view G10 _ _ _ y (ix2 ⟨(y 0).val - 32 * n, hx⟩ (y 1))
        (k0_off4_eq ⟨n, hk⟩) (by show (y 0).val = 32 * n + ((y 0).val - 32 * n); omega) rfl).trans ?_
      have e1 : (y 0).val / 32 = n := by omega
      have e2 : (y 0).val % 32 = (y 0).val - 32 * n := by omega
      unfold scaleOf
      exact congrArg₂ (fun k z => chunkScale (arg7.view.read (Elt F) X7) (arg11.view.read (Elt F) X11)
        (arg12.view.read (Elt F) X12) k (ix2 z (y 1))) (Fin.ext e1.symm) (Fin.ext e2.symm)
    · refine (View.read_writes_cons_rows_of_not_mem (d := ![256, 1]) arg10.view G10 _ _ _ y
        (k0_off4_eq ⟨n, hk⟩) rfl (Or.inl (by show (y 0).val < 32 * n; omega))).trans ?_
      exact pb_scales G10 n (by omega) y (by omega)

/-- After the loop the scales' buffer holds the scales of all rows. -/
theorem pb_scale (G10 : BufTy.Contents (Elt F) arg10.view.ty) :
    arg10.view.read (Elt F) (arg10.view.writes (Elt F) G10
        (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h3 X7 X11 X12 k0_t1_loop.trips).2)
      = scaleOf (arg7.view.read (Elt F) X7) (arg11.view.read (Elt F) X11) (arg12.view.read (Elt F) X12) := by
  funext y
  exact pb_scales 𝒱 c bd i arg1 harg1 arg2 harg2 arg3 harg3 arg4 harg4 arg5 harg5 arg6 harg6 arg7 harg7 arg8 harg8 arg9 harg9 arg10 harg10 arg11 harg11 arg12 harg12 k0_h3 X7 X11 X12 G10 _ (by rw [trips_eq]) y
    (by rw [trips_eq]; exact (y 0).isLt)

end

end Cert.KernelIdeal.Gen

end
-- ==== Proof.IdealStep.lean ====
/- One step of the kernel: what its blocks and its two scratch buffers hold after it, for the first step, a middle step and the last. -/
module

public import proofs.«01_k».proof.Proof.IdealKit
public import proofs.«01_k».proof.Proof.IdealChunk

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Which rows are valid, from the two lengths in the table. -/
def maskOf (c : Dev nD) (M : Memref sig .tc .smem S2 .i32) (f : TbBuf0 (F := F) c M) : IVec S256x1 1 :=
  k0_pay15 (F := F)
    (M.view.readAt (Elt F) (Rect.unit (s := S2) ![0] S1.size inb_S2_S1_0).toLoadRect f (Shape.Idx.first (numel1_S1.symm ▸ Nat.one_pos)))
    (M.view.readAt (Elt F) (Rect.unit (s := S2) ![1] S1.size inb_S2_S1_1).toLoadRect f (Shape.Idx.first (numel1_S1.symm ▸ Nat.one_pos)))

variable (c : Dev nD) (E : Set ℕ) (i : grid0.Coords)
    (arg1 : Memref sig .tc .smem S2 .i32) (harg1 : arg1.IsWhole)
    (arg2 : Memref sig .tc .vmem S256x8192 .fp8e4m3) (harg2 : arg2.IsWhole)
    (arg3 : Memref sig .tc .vmem S256x1 .f32) (harg3 : arg3.IsWhole)
    (arg4 : Memref sig .tc .vmem S8192x512 .fp8e4m3) (harg4 : arg4.IsWhole)
    (arg5 : Memref sig .tc .vmem S1x512 .f32) (harg5 : arg5.IsWhole)
    (arg6 : Memref sig .tc .vmem S256x512 .bf16) (harg6 : arg6.IsWhole)
    (arg7 : Memref sig .tc .vmem S1x5120 .f32) (harg7 : arg7.IsWhole)
    (arg8 : Memref sig .tc .vmem S256x512 .bf16) (harg8 : arg8.IsWhole)
    (arg9 : Memref sig .tc .vmem S256x5120 .fp8e4m3) (harg9 : arg9.IsWhole)
    (arg10 : Memref sig .tc .vmem S256x1 .f32) (harg10 : arg10.IsWhole)
    (arg11 : Memref sig .tc .vmem S256x5120 .bf16) (harg11 : arg11.IsWhole)
    (arg12 : Memref sig .tc .vmem S256x128 .f32) (harg12 : arg12.IsWhole)
    (f1 : TbBuf0 (F := F) c arg1)
    (x2 : Vec F S256x8192 .fp8e4m3) (x3 : Vec F S256x1 .f32) (x4 : Vec F S8192x512 .fp8e4m3) (x5 : Vec F S1x512 .f32)
    (x6 : Vec F S256x512 .bf16) (x7 : Vec F S1x5120 .f32) (x11 : Vec F S256x5120 .bf16) (x12 : Vec F S256x128 .f32)

/-- The first step: the block's values go to the output block and to their columns of the scratch copy, and the partial sums of squares are set. -/
theorem sound_first (h1 : Scalar.cmpi .ne (Scalar.extui (Scalar.cmpi .eq (BitVec.ofNat 32 (i 0).val) 0#32)) 0#32 = 1#1) (h2 : ¬ Scalar.cmpi .ne (Scalar.extui (Scalar.cmpi .sgt (BitVec.ofNat 32 (i 0).val) 0#32)) 0#32 = 1#1) (h3 : ¬ k0_cond3 i = 1#1) (K : PUnit → sProp 𝕄) :
    iprop(tbPt0 c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12
        ∗ (iprop(tbPt0 c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay1 (k0_pay14 x2 x4 x3 x5) (maskOf c arg1 f1) x6) ∗ (∃ d, owns (c : Thread nD τ) arg9 fullShare d) ∗ (∃ d, owns (c : Thread nD τ) arg10 fullShare d) ∗ owns (c : Thread nD τ) arg11 fullShare (VecWindow.put x11 (![0, 512 * (i 0).val] : Fin 2 → ℕ) S256x512.size (k0_pay1 (k0_pay14 x2 x4 x3 x5) (maskOf c arg1 f1) x6)) ∗ owns (c : Thread nD τ) arg12 fullShare (k0_pay4 (k0_pay14 x2 x4 x3 x5) (maskOf c arg1 f1) x6)) -∗ K ⟨⟩))
      ⊢ wp frame (wpE (defs₀ (F := F)) Variants.none c none) E (cc0_oproj_rmsnorm_quant i arg1 harg1 arg2 harg2 arg3 harg3 arg4 harg4 arg5 harg5 arg6 harg6 arg7 harg7 arg8 harg8 arg9 harg9 arg10 harg10 arg11 harg11 arg12 harg12) K := by
  simp only [cc0_oproj_rmsnorm_quant_eq_skeleton]; unfold cc0_oproj_rmsnorm_quant_skel
  simp only [k0_part2_eq_skeleton]; unfold k0_part2_skel
  unfold owns
  iintro ⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  subst hf2 hf3 hf4 hf5 hf6 hf7 hf11 hf12
  sl_exec
  sl_step
  iapply Hk
  isplitl [H1]; · iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_full (s := S256x512) arg8.view _ inb_S256x512_S256x512_0_0 _ []).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    rfl
  isplitl [H9]
  · iexists _; iexists f9; isplitr; · ipureintro; rfl
    iexact H9
  isplitl [H10]
  · iexists _; iexists f10; isplitr; · ipureintro; rfl
    iexact H10
  isplitl [H11]
  · iexists _; isplitr
    swap; · iexact H11
    ipureintro
    refine (View.read_writes_cons_put arg11.view f11 (k0_off1_inb i) _ [] (k0_off1_eq i)).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    refine congrArg (VecWindow.put (arg11.view.read (Elt F) f11) ![0, 512 * (i 0).val] S256x512.size) ?_
    exact shapeCast_self _ _
  iexists _; isplitr
  swap; · iexact H12
  ipureintro
  refine (View.read_writes_full (s := S256x128) arg12.view f12 inb_S256x128_S256x128_0_0 _ []).trans ?_
  rw [← View.readAt_full arg2.view f2 (off := ![0, 0]) inb_S256x8192_S256x8192_0_0,
    ← View.readAt_full arg3.view f3 (off := ![0, 0]) inb_S256x1_S256x1_0_0,
    ← View.readAt_full arg4.view f4 (off := ![0, 0]) inb_S8192x512_S8192x512_0_0,
    ← View.readAt_full arg5.view f5 (off := ![0, 0]) inb_S1x512_S1x512_0_0,
    ← View.readAt_full arg6.view f6 (off := ![0, 0]) inb_S256x512_S256x512_0_0]
  rfl

/-- A middle step: as the first, but the partial sums of squares are added to. -/
theorem sound_mid (h1 : ¬ Scalar.cmpi .ne (Scalar.extui (Scalar.cmpi .eq (BitVec.ofNat 32 (i 0).val) 0#32)) 0#32 = 1#1) (h2 : Scalar.cmpi .ne (Scalar.extui (Scalar.cmpi .sgt (BitVec.ofNat 32 (i 0).val) 0#32)) 0#32 = 1#1) (h3 : ¬ k0_cond3 i = 1#1) (K : PUnit → sProp 𝕄) :
    iprop(tbPt0 c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12
        ∗ (iprop(tbPt0 c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay1 (k0_pay14 x2 x4 x3 x5) (maskOf c arg1 f1) x6) ∗ (∃ d, owns (c : Thread nD τ) arg9 fullShare d) ∗ (∃ d, owns (c : Thread nD τ) arg10 fullShare d) ∗ owns (c : Thread nD τ) arg11 fullShare (VecWindow.put x11 (![0, 512 * (i 0).val] : Fin 2 → ℕ) S256x512.size (k0_pay1 (k0_pay14 x2 x4 x3 x5) (maskOf c arg1 f1) x6)) ∗ owns (c : Thread nD τ) arg12 fullShare (k0_pay5 (k0_pay14 x2 x4 x3 x5) (maskOf c arg1 f1) x6 x12)) -∗ K ⟨⟩))
      ⊢ wp frame (wpE (defs₀ (F := F)) Variants.none c none) E (cc0_oproj_rmsnorm_quant i arg1 harg1 arg2 harg2 arg3 harg3 arg4 harg4 arg5 harg5 arg6 harg6 arg7 harg7 arg8 harg8 arg9 harg9 arg10 harg10 arg11 harg11 arg12 harg12) K := by
  simp only [cc0_oproj_rmsnorm_quant_eq_skeleton]; unfold cc0_oproj_rmsnorm_quant_skel
  simp only [k0_part2_eq_skeleton]; unfold k0_part2_skel
  unfold owns
  iintro ⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  subst hf2 hf3 hf4 hf5 hf6 hf7 hf11 hf12
  sl_exec
  sl_step
  iapply Hk
  isplitl [H1]; · iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_full (s := S256x512) arg8.view _ inb_S256x512_S256x512_0_0 _ []).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    rfl
  isplitl [H9]
  · iexists _; iexists f9; isplitr; · ipureintro; rfl
    iexact H9
  isplitl [H10]
  · iexists _; iexists f10; isplitr; · ipureintro; rfl
    iexact H10
  isplitl [H11]
  · iexists _; isplitr
    swap; · iexact H11
    ipureintro
    refine (View.read_writes_cons_put arg11.view f11 (k0_off1_inb i) _ [] (k0_off1_eq i)).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    refine congrArg (VecWindow.put (arg11.view.read (Elt F) f11) ![0, 512 * (i 0).val] S256x512.size) ?_
    exact shapeCast_self _ _
  iexists _; isplitr
  swap; · iexact H12
  ipureintro
  refine (View.read_writes_full (s := S256x128) arg12.view f12 inb_S256x128_S256x128_0_0 _ []).trans ?_
  rw [← View.readAt_full arg2.view f2 (off := ![0, 0]) inb_S256x8192_S256x8192_0_0,
    ← View.readAt_full arg3.view f3 (off := ![0, 0]) inb_S256x1_S256x1_0_0,
    ← View.readAt_full arg4.view f4 (off := ![0, 0]) inb_S8192x512_S8192x512_0_0,
    ← View.readAt_full arg5.view f5 (off := ![0, 0]) inb_S1x512_S1x512_0_0,
    ← View.readAt_full arg6.view f6 (off := ![0, 0]) inb_S256x512_S256x512_0_0]
  rw [← View.readAt_full arg12.view f12 (off := ![0, 0]) inb_S256x128_S256x128_0_0]
  rfl

/-- The last step: as a middle one, and then the codes and scales of all rows are computed from the scratch copy and the sums. -/
theorem sound_last (h1 : ¬ Scalar.cmpi .ne (Scalar.extui (Scalar.cmpi .eq (BitVec.ofNat 32 (i 0).val) 0#32)) 0#32 = 1#1) (h2 : Scalar.cmpi .ne (Scalar.extui (Scalar.cmpi .sgt (BitVec.ofNat 32 (i 0).val) 0#32)) 0#32 = 1#1) (h3 : k0_cond3 i = 1#1) (K : PUnit → sProp 𝕄) :
    iprop(tbPt0 c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12
        ∗ (iprop(tbPt0 c arg1 f1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay1 (k0_pay14 x2 x4 x3 x5) (maskOf c arg1 f1) x6) ∗ owns (c : Thread nD τ) arg9 fullShare (codesOf x7 (VecWindow.put x11 (![0, 512 * (i 0).val] : Fin 2 → ℕ) S256x512.size (k0_pay1 (k0_pay14 x2 x4 x3 x5) (maskOf c arg1 f1) x6)) (k0_pay5 (k0_pay14 x2 x4 x3 x5) (maskOf c arg1 f1) x6 x12)) ∗ owns (c : Thread nD τ) arg10 fullShare (scaleOf x7 (VecWindow.put x11 (![0, 512 * (i 0).val] : Fin 2 → ℕ) S256x512.size (k0_pay1 (k0_pay14 x2 x4 x3 x5) (maskOf c arg1 f1) x6)) (k0_pay5 (k0_pay14 x2 x4 x3 x5) (maskOf c arg1 f1) x6 x12)) ∗ owns (c : Thread nD τ) arg11 fullShare (VecWindow.put x11 (![0, 512 * (i 0).val] : Fin 2 → ℕ) S256x512.size (k0_pay1 (k0_pay14 x2 x4 x3 x5) (maskOf c arg1 f1) x6)) ∗ owns (c : Thread nD τ) arg12 fullShare (k0_pay5 (k0_pay14 x2 x4 x3 x5) (maskOf c arg1 f1) x6 x12)) -∗ K ⟨⟩))
      ⊢ wp frame (wpE (defs₀ (F := F)) Variants.none c none) E (cc0_oproj_rmsnorm_quant i arg1 harg1 arg2 harg2 arg3 harg3 arg4 harg4 arg5 harg5 arg6 harg6 arg7 harg7 arg8 harg8 arg9 harg9 arg10 harg10 arg11 harg11 arg12 harg12) K := by
  simp only [cc0_oproj_rmsnorm_quant_eq_skeleton]; unfold cc0_oproj_rmsnorm_quant_skel
  simp only [k0_part2_eq_skeleton]; unfold k0_part2_skel
  unfold owns
  iintro ⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  subst hf2 hf3 hf4 hf5 hf6 hf7 hf11 hf12
  sl_exec
  sl_step
  have e12 : arg12.view.read (Elt F) (arg12.view.writes (Elt F) arg12.view.junk
        (sound_last.sl.H12_1 c i arg1 arg2 arg3 arg4 arg5 arg6 arg12 f1 f2 f3 f4 f5 f6 f12))
      = k0_pay5 (k0_pay14 (arg2.view.read (Elt F) f2) (arg4.view.read (Elt F) f4) (arg3.view.read (Elt F) f3) (arg5.view.read (Elt F) f5))
          (maskOf c arg1 f1) (arg6.view.read (Elt F) f6) (arg12.view.read (Elt F) f12) := by
    unfold sound_last.sl.H12_1
    refine (View.read_writes_full (s := S256x128) arg12.view _ inb_S256x128_S256x128_0_0 _ []).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    rw [← View.readAt_full arg12.view f12 (off := ![0, 0]) inb_S256x128_S256x128_0_0]
    rfl
  iapply Hk
  isplitl [H1]; · iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    unfold sound_last.sl.H8_1
    refine (View.read_writes_full (s := S256x512) arg8.view _ inb_S256x512_S256x512_0_0 _ []).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    rfl
  isplitl [H9]
  · iexists _; isplitr
    swap; · iexact H9
    ipureintro
    refine (pb_codes Variants.none c none i arg1 harg1 arg2 harg2 arg3 harg3 arg4 harg4 arg5 harg5 arg6 harg6 arg7 harg7 arg8 harg8 arg9 harg9 arg10 harg10 arg11 harg11 arg12 harg12 h3 _ _ _ _).trans ?_
    refine congrArg₂ (codesOf (arg7.view.read (Elt F) f7)) ?_ ?_
    · refine (View.read_writes_cons_put arg11.view f11 (k0_off1_inb i) _ [] (k0_off1_eq i)).trans ?_
      rw [← View.readAt_full arg2.view f2 (off := ![0, 0]) inb_S256x8192_S256x8192_0_0,
        ← View.readAt_full arg3.view f3 (off := ![0, 0]) inb_S256x1_S256x1_0_0,
        ← View.readAt_full arg4.view f4 (off := ![0, 0]) inb_S8192x512_S8192x512_0_0,
        ← View.readAt_full arg5.view f5 (off := ![0, 0]) inb_S1x512_S1x512_0_0,
        ← View.readAt_full arg6.view f6 (off := ![0, 0]) inb_S256x512_S256x512_0_0]
      refine congrArg (VecWindow.put (arg11.view.read (Elt F) f11) ![0, 512 * (i 0).val] S256x512.size) ?_
      exact shapeCast_self _ _
    · exact e12
  isplitl [H10]
  · iexists _; isplitr
    swap; · iexact H10
    ipureintro
    refine (pb_scale Variants.none c none i arg1 harg1 arg2 harg2 arg3 harg3 arg4 harg4 arg5 harg5 arg6 harg6 arg7 harg7 arg8 harg8 arg9 harg9 arg10 harg10 arg11 harg11 arg12 harg12 h3 _ _ _ _).trans ?_
    refine congrArg₂ (scaleOf (arg7.view.read (Elt F) f7)) ?_ ?_
    · refine (View.read_writes_cons_put arg11.view f11 (k0_off1_inb i) _ [] (k0_off1_eq i)).trans ?_
      rw [← View.readAt_full arg2.view f2 (off := ![0, 0]) inb_S256x8192_S256x8192_0_0,
        ← View.readAt_full arg3.view f3 (off := ![0, 0]) inb_S256x1_S256x1_0_0,
        ← View.readAt_full arg4.view f4 (off := ![0, 0]) inb_S8192x512_S8192x512_0_0,
        ← View.readAt_full arg5.view f5 (off := ![0, 0]) inb_S1x512_S1x512_0_0,
        ← View.readAt_full arg6.view f6 (off := ![0, 0]) inb_S256x512_S256x512_0_0]
      refine congrArg (VecWindow.put (arg11.view.read (Elt F) f11) ![0, 512 * (i 0).val] S256x512.size) ?_
      exact shapeCast_self _ _
    · exact e12
  isplitl [H11]
  · iexists _; isplitr
    swap; · iexact H11
    ipureintro
    refine (View.read_writes_cons_put arg11.view f11 (k0_off1_inb i) _ [] (k0_off1_eq i)).trans ?_
    rw [← View.readAt_full arg2.view f2 (off := ![0, 0]) inb_S256x8192_S256x8192_0_0,
      ← View.readAt_full arg3.view f3 (off := ![0, 0]) inb_S256x1_S256x1_0_0,
      ← View.readAt_full arg4.view f4 (off := ![0, 0]) inb_S8192x512_S8192x512_0_0,
      ← View.readAt_full arg5.view f5 (off := ![0, 0]) inb_S1x512_S1x512_0_0,
      ← View.readAt_full arg6.view f6 (off := ![0, 0]) inb_S256x512_S256x512_0_0]
    refine congrArg (VecWindow.put (arg11.view.read (Elt F) f11) ![0, 512 * (i 0).val] S256x512.size) ?_
    exact shapeCast_self _ _
  iexists _; isplitr
  swap; · iexact H12
  ipureintro
  exact e12

end Cert.KernelIdeal.Gen

end
-- ==== Proof.IdealData.lean ====
/- What the kernel's buffers hold at each step of the grid, as the proof data of its one pipelined region: the output
   block of a step, the scratch copy of the residual stream, the partial sums of squares, the codes and the scales. -/
module

public import proofs.«01_k».proof.Proof.IdealStep
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No index map reads the table: every table's contents are admissible. -/
theorem okT : Ok (F := F) m := by unfold Ok ok0; trivial

/-- The pipeline at the table's contents. -/
abbrev cfgK : Pipeline.Cfg sig Λ₀ := cfgM m (okT m)

/-- Input window `w`'s block at a step. -/
abbrev blkK (c : Dev nD) (w : Fin (cfgK m).W) (t : Fin (cfgK m).N) := iblk m (okT m) c w t

/-- Step `n` as a grid point. -/
def pt (n : ℕ) : Fin (cfgK m).N := ⟨n % 10, by show n % 10 < grid0.N; rw [N_0]; omega⟩

/-- Point `t` of the grid, found again by its number. -/
theorem pt_val (t : Fin (cfgK m).N) : pt m t.val = t := by
  have h : t.val < grid0.N := t.isLt
  rw [N_0] at h
  exact Fin.ext (Nat.mod_eq_of_lt h)

/-- The matrix product of a step's weight block, scaled by row and column. -/
def accB (c : Dev nD) (t : Fin (cfgK m).N) : FVec F S256x512 .f32 :=
  k0_pay14 (blkK m c 0 t) (blkK m c 2 t) (blkK m c 1 t) (blkK m c 3 t)

/-- Which rows are valid. -/
def maskB (c : Dev nD) : IVec S256x1 1 := maskOf (F := F) c tbM0_0 (tbl m 0)

/-- The block of the summed residual stream a step writes. -/
def hB (c : Dev nD) (t : Fin (cfgK m).N) : FVec F S256x512 .bf16 := k0_pay1 (accB m c t) (maskB m c) (blkK m c 4 t)

/-- The partial sums of squares after step `n`. -/
def ssqAt (c : Dev nD) : ℕ → FVec F S256x128 .f32
  | 0 => k0_pay4 (accB m c (pt m 0)) (maskB m c) (blkK m c 4 (pt m 0))
  | n + 1 => k0_pay5 (accB m c (pt m (n + 1))) (maskB m c) (blkK m c 4 (pt m (n + 1))) (ssqAt c n)

/-- The summed residual stream, all columns. -/
def hAll (c : Dev nD) : Vec F S256x5120 .bf16 :=
  fun y => hB m c (pt m ((y 1).val / 512)) (ix2 (y 0) ⟨(y 1).val % 512, by omega⟩)

/-- The codes. -/
def codesV (c : Dev nD) : Vec F S256x5120 .fp8e4m3 := codesOf (blkK m c 5 (pt m 9)) (hAll m c) (ssqAt m c 9)

/-- The scales. -/
def scaleV (c : Dev nD) : Vec F S256x1 .f32 := scaleOf (blkK m c 5 (pt m 9)) (hAll m c) (ssqAt m c 9)

/-- Before step `t` the first `512 t` columns of the scratch copy are written, and the sums are those of step `t - 1`. -/
def inv (c : Dev nD) (t : ℕ) : sProp 𝕄 :=
  iprop(tbPt0 c tbM0_0 (tbl m 0) ∗ (∃ r, prngReg c r)
    ∗ (∃ X : Vec F S256x5120 .bf16, ⌜∀ y : S256x5120.Idx, (y 1).val < 512 * t → X y = hAll m c y⌝ ∗ owns (c : Thread nD τ) (Memref.whole cc0_scratch0) fullShare X)
    ∗ (∃ S : Vec F S256x128 .f32, ⌜∀ n, t = n + 1 → S = ssqAt m c n⌝ ∗ owns (c : Thread nD τ) (Memref.whole cc0_scratch1) fullShare S))

/-- The proof data: an input's staging buffer is left as found, the output block is the step's, and the codes and the
    scales are there after the last step. -/
def rdat (c : Dev nD) : Pipeline.RDat τ (Elt F) Unit ℕ (UR sig nD τ) ℕ (cfgK m) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => X = hB m c t
    | ⟨7, _⟩ => fun _ X => t.val = 9 → X = codesV m c
    | ⟨8, _⟩ => fun _ X => t.val = 9 → X = scaleV m c
  Φ t := inv m c t.val
  q _ := fullShare
  owed _ := 0

/-- Window 0 is left as it was found. -/
theorem rafter0 (c : Dev nD) (t : Fin (cfgK m).N) : (rdat m c).after 0 t = fun Y X => X = Y := by dsimp only [rdat]; rfl
/-- Window 1 is left as it was found. -/
theorem rafter1 (c : Dev nD) (t : Fin (cfgK m).N) : (rdat m c).after 1 t = fun Y X => X = Y := by dsimp only [rdat]; rfl
/-- Window 2 is left as it was found. -/
theorem rafter2 (c : Dev nD) (t : Fin (cfgK m).N) : (rdat m c).after 2 t = fun Y X => X = Y := by dsimp only [rdat]; rfl
/-- Window 3 is left as it was found. -/
theorem rafter3 (c : Dev nD) (t : Fin (cfgK m).N) : (rdat m c).after 3 t = fun Y X => X = Y := by dsimp only [rdat]; rfl
/-- Window 4 is left as it was found. -/
theorem rafter4 (c : Dev nD) (t : Fin (cfgK m).N) : (rdat m c).after 4 t = fun Y X => X = Y := by dsimp only [rdat]; rfl
/-- Window 5 is left as it was found. -/
theorem rafter5 (c : Dev nD) (t : Fin (cfgK m).N) : (rdat m c).after 5 t = fun Y X => X = Y := by dsimp only [rdat]; rfl
/-- Window 6 is left at the block of the stream of its step. -/
theorem rafter6 (c : Dev nD) (t : Fin (cfgK m).N) : (rdat m c).after 6 t = fun _ X => X = hB m c t := by dsimp only [rdat]; rfl
/-- Window 7 is left at the codes by the last step. -/
theorem rafter7 (c : Dev nD) (t : Fin (cfgK m).N) : (rdat m c).after 7 t = fun _ X => t.val = 9 → X = codesV m c := by dsimp only [rdat]; rfl
/-- Window 8 is left at the scales by the last step. -/
theorem rafter8 (c : Dev nD) (t : Fin (cfgK m).N) : (rdat m c).after 8 t = fun _ X => t.val = 9 → X = scaleV m c := by dsimp only [rdat]; rfl

/-- The array of a window is the one the host left in it. -/
theorem rA_eq (c : Dev nD) (w : Fin (cfgK m).W) : (rdat m c).A w = V m c (Pipeline.arrRef spec0 w) := by dsimp only [rdat]

/-- Input window 0 is found at its block. -/
theorem finds0 (c : Dev nD) (t : Fin (cfgK m).N) (Y) (h : (rdat m c).Finds 0 t Y) : Y = blkK m c 0 t := by
  obtain ⟨d, hd⟩ := (rdat m c).finds_in_eq_fetched 0 rfl (fun _ _ _ => rfl) (fun t Y X h => by rw [rafter0] at h; exact h) t Y h
  rw [hd]; unfold Pipeline.RDat.fetched Pipeline.RDat.blockOf blkK iblk; rw [rA_eq]; rfl

/-- Input window 1 is found at its block. -/
theorem finds1 (c : Dev nD) (t : Fin (cfgK m).N) (Y) (h : (rdat m c).Finds 1 t Y) : Y = blkK m c 1 t := by
  obtain ⟨d, hd⟩ := (rdat m c).finds_in_eq_fetched 1 rfl (fun _ _ _ => rfl) (fun t Y X h => by rw [rafter1] at h; exact h) t Y h
  rw [hd]; unfold Pipeline.RDat.fetched Pipeline.RDat.blockOf blkK iblk; rw [rA_eq]; rfl

/-- Input window 2 is found at its block. -/
theorem finds2 (c : Dev nD) (t : Fin (cfgK m).N) (Y) (h : (rdat m c).Finds 2 t Y) : Y = blkK m c 2 t := by
  obtain ⟨d, hd⟩ := (rdat m c).finds_in_eq_fetched 2 rfl (fun _ _ _ => rfl) (fun t Y X h => by rw [rafter2] at h; exact h) t Y h
  rw [hd]; unfold Pipeline.RDat.fetched Pipeline.RDat.blockOf blkK iblk; rw [rA_eq]; rfl

/-- Input window 3 is found at its block. -/
theorem finds3 (c : Dev nD) (t : Fin (cfgK m).N) (Y) (h : (rdat m c).Finds 3 t Y) : Y = blkK m c 3 t := by
  obtain ⟨d, hd⟩ := (rdat m c).finds_in_eq_fetched 3 rfl (fun _ _ _ => rfl) (fun t Y X h => by rw [rafter3] at h; exact h) t Y h
  rw [hd]; unfold Pipeline.RDat.fetched Pipeline.RDat.blockOf blkK iblk; rw [rA_eq]; rfl

/-- Input window 4 is found at its block. -/
theorem finds4 (c : Dev nD) (t : Fin (cfgK m).N) (Y) (h : (rdat m c).Finds 4 t Y) : Y = blkK m c 4 t := by
  obtain ⟨d, hd⟩ := (rdat m c).finds_in_eq_fetched 4 rfl (fun _ _ _ => rfl) (fun t Y X h => by rw [rafter4] at h; exact h) t Y h
  rw [hd]; unfold Pipeline.RDat.fetched Pipeline.RDat.blockOf blkK iblk; rw [rA_eq]; rfl

/-- Input window 5 is found at its block. -/
theorem finds5 (c : Dev nD) (t : Fin (cfgK m).N) (Y) (h : (rdat m c).Finds 5 t Y) : Y = blkK m c 5 t := by
  obtain ⟨d, hd⟩ := (rdat m c).finds_in_eq_fetched 5 rfl (fun _ _ _ => rfl) (fun t Y X h => by rw [rafter5] at h; exact h) t Y h
  rw [hd]; unfold Pipeline.RDat.fetched Pipeline.RDat.blockOf blkK iblk; rw [rA_eq]; rfl

end Cert.KernelIdeal.Gen

end
-- ==== Proof.IdealRun.lean ====
/- The kernel's run: the body obligation at every step, and what every final state holds. -/
module

public import proofs.«01_k».proof.Proof.IdealData

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The coordinate of a step is its number. -/
theorem coords_val : ∀ t : Fin grid0.N, (grid0.coords t 0).val = t.val := by decide +kernel
/-- The first branch is taken at step 0. -/
theorem cond_first : ∀ t : Fin grid0.N, (Scalar.cmpi .ne (Scalar.extui (Scalar.cmpi .eq (BitVec.ofNat 32 (grid0.coords t 0).val) 0#32)) 0#32 = 1#1) ↔ t.val = 0 := by decide +kernel
/-- The second branch is taken after step 0. -/
theorem cond_later : ∀ t : Fin grid0.N, (Scalar.cmpi .ne (Scalar.extui (Scalar.cmpi .sgt (BitVec.ofNat 32 (grid0.coords t 0).val) 0#32)) 0#32 = 1#1) ↔ ¬ t.val = 0 := by decide +kernel
/-- The third branch is taken at step 9. -/
theorem cond_last : ∀ t : Fin grid0.N, k0_cond3 (grid0.coords t) = 1#1 ↔ t.val = 9 := by decide +kernel

variable (m : (ℓ : Loc nD τ sig) → Buf (Elt F) ℓ) (ρ : Dev nD → PrngReg)

/-- Writing a step's block into the scratch copy extends the written columns by 512. -/
theorem put_hAll (c : Dev nD) (t : Fin (cfgK m).N) (X : Vec F S256x5120 .bf16)
    (hX : ∀ y : S256x5120.Idx, (y 1).val < 512 * t.val → X y = hAll m c y) (y : S256x5120.Idx)
    (hy : (y 1).val < 512 * (t.val + 1)) :
    VecWindow.put X (![0, 512 * (grid0.coords t 0).val] : Fin 2 → ℕ) S256x512.size (hB m c t) y = hAll m c y := by
  have ht : (grid0.coords t 0).val = t.val := coords_val t
  rw [ht]
  have h0 : (y 0).val < 256 := (y 0).isLt
  unfold VecWindow.put
  split
  · next h =>
    have h1 := (h 1).1
    have h1' : 512 * t.val ≤ (y 1).val := h1
    have e1 : (y 1).val / 512 = t.val := by omega
    have e2 : (y 1).val % 512 = (y 1).val - 512 * t.val := by omega
    unfold hAll
    rw [e1, pt_val]
    congr 1
    funext a; apply Fin.ext
    fin_cases a
    · show (y 0).val - 0 = (y 0).val
      omega
    · show (y 1).val - 512 * t.val = (y 1).val % 512
      omega
  · next h =>
    refine hX y ?_
    by_contra hc
    refine h (Fin.forall_fin_two.mpr ⟨⟨Nat.zero_le _, ?_⟩, ⟨?_, ?_⟩⟩)
    · show (y 0).val < 0 + 256
      omega
    · show 512 * t.val ≤ (y 1).val
      omega
    · show (y 1).val < 512 * t.val + 512
      omega

/-- After the last step's write the scratch copy is the whole residual stream. -/
theorem put_last (c : Dev nD) (t : Fin (cfgK m).N) (ht : t.val = 9) (X : Vec F S256x5120 .bf16)
    (hX : ∀ y : S256x5120.Idx, (y 1).val < 512 * t.val → X y = hAll m c y) :
    VecWindow.put X (![0, 512 * (grid0.coords t 0).val] : Fin 2 → ℕ) S256x512.size (hB m c t) = hAll m c := by
  funext y
  have h1 : (y 1).val < 5120 := (y 1).isLt
  exact put_hAll m c t X hX y (by omega)

/-- The partial sums after step 0. -/
theorem ssqAt_zero (c : Dev nD) (t : Fin (cfgK m).N) (ht : t.val = 0) :
    k0_pay4 (accB m c t) (maskB m c) (blkK m c 4 t) = ssqAt m c 0 := by
  have e : pt m 0 = t := by rw [← ht]; exact pt_val m t
  unfold ssqAt; rw [e]

/-- The partial sums after a later step. -/
theorem ssqAt_succ (c : Dev nD) (t : Fin (cfgK m).N) (n : ℕ) (ht : t.val = n + 1) :
    k0_pay5 (accB m c t) (maskB m c) (blkK m c 4 t) (ssqAt m c n) = ssqAt m c (n + 1) := by
  have e : pt m (n + 1) = t := by rw [← ht]; exact pt_val m t
  rw [ssqAt, e]

/-- What the body is handed at a step. -/
def bodyPre (c : Dev nD) (t : Fin (cfgK m).N) (Y : (w : Fin (cfgK m).W) → ((cfgK m).win w).block.Idx → Elt F ((cfgK m).win w).elt) : sProp 𝕄 :=
  iprop(inv m c t.val ∗ (rdat m c).owesAt () t.castSucc
    ∗ owns (c : Thread nD τ) (((cfgK m).win 0).stage ((cfgK m).slots t 0)) fullShare (Y 0) ∗ owns (c : Thread nD τ) (((cfgK m).win 1).stage ((cfgK m).slots t 1)) fullShare (Y 1) ∗ owns (c : Thread nD τ) (((cfgK m).win 2).stage ((cfgK m).slots t 2)) fullShare (Y 2) ∗ owns (c : Thread nD τ) (((cfgK m).win 3).stage ((cfgK m).slots t 3)) fullShare (Y 3) ∗ owns (c : Thread nD τ) (((cfgK m).win 4).stage ((cfgK m).slots t 4)) fullShare (Y 4) ∗ owns (c : Thread nD τ) (((cfgK m).win 5).stage ((cfgK m).slots t 5)) fullShare (Y 5) ∗ owns (c : Thread nD τ) (((cfgK m).win 6).stage ((cfgK m).slots t 6)) fullShare (Y 6) ∗ owns (c : Thread nD τ) (((cfgK m).win 7).stage ((cfgK m).slots t 7)) fullShare (Y 7) ∗ owns (c : Thread nD τ) (((cfgK m).win 8).stage ((cfgK m).slots t 8)) fullShare (Y 8))

/-- What it leaves. -/
def bodyPost (c : Dev nD) (t : Fin (cfgK m).N) (Y : (w : Fin (cfgK m).W) → ((cfgK m).win w).block.Idx → Elt F ((cfgK m).win w).elt) : sProp 𝕄 :=
  iprop(inv m c (t.val + 1) ∗ (rdat m c).owesAt () t.succ
    ∗ (∃ X, ⌜(rdat m c).after 0 t (Y 0) X⌝ ∗ owns (c : Thread nD τ) (((cfgK m).win 0).stage ((cfgK m).slots t 0)) fullShare X) ∗ (∃ X, ⌜(rdat m c).after 1 t (Y 1) X⌝ ∗ owns (c : Thread nD τ) (((cfgK m).win 1).stage ((cfgK m).slots t 1)) fullShare X) ∗ (∃ X, ⌜(rdat m c).after 2 t (Y 2) X⌝ ∗ owns (c : Thread nD τ) (((cfgK m).win 2).stage ((cfgK m).slots t 2)) fullShare X) ∗ (∃ X, ⌜(rdat m c).after 3 t (Y 3) X⌝ ∗ owns (c : Thread nD τ) (((cfgK m).win 3).stage ((cfgK m).slots t 3)) fullShare X) ∗ (∃ X, ⌜(rdat m c).after 4 t (Y 4) X⌝ ∗ owns (c : Thread nD τ) (((cfgK m).win 4).stage ((cfgK m).slots t 4)) fullShare X) ∗ (∃ X, ⌜(rdat m c).after 5 t (Y 5) X⌝ ∗ owns (c : Thread nD τ) (((cfgK m).win 5).stage ((cfgK m).slots t 5)) fullShare X) ∗ (∃ X, ⌜(rdat m c).after 6 t (Y 6) X⌝ ∗ owns (c : Thread nD τ) (((cfgK m).win 6).stage ((cfgK m).slots t 6)) fullShare X) ∗ (∃ X, ⌜(rdat m c).after 7 t (Y 7) X⌝ ∗ owns (c : Thread nD τ) (((cfgK m).win 7).stage ((cfgK m).slots t 7)) fullShare X) ∗ (∃ X, ⌜(rdat m c).after 8 t (Y 8) X⌝ ∗ owns (c : Thread nD τ) (((cfgK m).win 8).stage ((cfgK m).slots t 8)) fullShare X))

/-- The body at the first step. -/
theorem body_first (c : Dev nD) (t : Fin (cfgK m).N) (Y) (hY : ∀ w, (rdat m c).Finds w t (Y w)) (ht : t.val = 0) :
    bodyPre m c t Y ⊢ wp frame (wpE (defs₀ (F := F)) Variants.none c none) Set.univ (bodyAt0 (adm m (okT m)) t) (fun _ => bodyPost m c t Y) := by
  unfold bodyPre bodyPost bodyAt0
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  rw [e0, e1, e2, e3, e4, e5]
  rw [show (rdat m c).owesAt () t.succ = (rdat m c).owesAt () t.castSucc from rfl, rafter0, rafter1, rafter2, rafter3, rafter4, rafter5, rafter6, rafter7, rafter8]
  unfold inv
  iintro ⟨⟨HT, Hp, ⟨%X, %hX, HX⟩, ⟨%S, %hS, HS⟩⟩, Ho, H0, H1, H2, H3, H4, H5, H6, H7, H8⟩
  iapply (sound_first c Set.univ (grid0.coords t) _ _ _ _ _ _ _ _ _ _ _ _ _ _ _ _ _ _ _ _ _ _ _ _ (tbl m 0) (blkK m c 0 t) (blkK m c 1 t) (blkK m c 2 t) (blkK m c 3 t) (blkK m c 4 t) (blkK m c 5 t) X S ((cond_first t).mpr ht) (fun h => (cond_later t).mp h ht) (fun h => by have := (cond_last t).mp h; omega) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HX]; · iexact HX
  isplitl [HS]; · iexact HS
  iintro ⟨HT, H0, H1, H2, H3, H4, H5, H6, ⟨%d7, H7⟩, ⟨%d8, H8⟩, HX, HS⟩
  isplitl [HT Hp HX HS]
  · isplitl [HT]; · iexact HT
    isplitl [Hp]; · iexact Hp
    isplitl [HX]
    · iexists _; isplitr
      swap; · iexact HX
      ipureintro
      exact fun y hy => put_hAll m c t X hX y hy
    iexists _; isplitr
    swap; · iexact HS
    ipureintro
    intro n hn
    obtain rfl : n = 0 := by omega
    exact ssqAt_zero m c t ht
  isplitl [Ho]; · iexact Ho
  isplitl [H0]
  · iexists _; isplitr
    swap; · iexact H0
    ipureintro; exact rfl
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  isplitl [H7]
  · iexists _; isplitr
    swap; · iexact H7
    ipureintro; exact fun h => absurd h (by omega)
  iexists _; isplitr
  swap; · iexact H8
  ipureintro; exact fun h => absurd h (by omega)

/-- The body at a step between. -/
theorem body_mid (c : Dev nD) (t : Fin (cfgK m).N) (Y) (hY : ∀ w, (rdat m c).Finds w t (Y w)) (h0 : ¬ t.val = 0) (h9 : ¬ t.val = 9) :
    bodyPre m c t Y ⊢ wp frame (wpE (defs₀ (F := F)) Variants.none c none) Set.univ (bodyAt0 (adm m (okT m)) t) (fun _ => bodyPost m c t Y) := by
  unfold bodyPre bodyPost bodyAt0
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  rw [e0, e1, e2, e3, e4, e5]
  rw [show (rdat m c).owesAt () t.succ = (rdat m c).owesAt () t.castSucc from rfl, rafter0, rafter1, rafter2, rafter3, rafter4, rafter5, rafter6, rafter7, rafter8]
  unfold inv
  iintro ⟨⟨HT, Hp, ⟨%X, %hX, HX⟩, ⟨%S, %hS, HS⟩⟩, Ho, H0, H1, H2, H3, H4, H5, H6, H7, H8⟩
  obtain ⟨k, hk⟩ : ∃ k, t.val = k + 1 := ⟨t.val - 1, by omega⟩
  have hS' := hS k hk
  subst hS'
  iapply (sound_mid c Set.univ (grid0.coords t) _ _ _ _ _ _ _ _ _ _ _ _ _ _ _ _ _ _ _ _ _ _ _ _ (tbl m 0) (blkK m c 0 t) (blkK m c 1 t) (blkK m c 2 t) (blkK m c 3 t) (blkK m c 4 t) (blkK m c 5 t) X (ssqAt m c k) (fun h => h0 ((cond_first t).mp h)) ((cond_later t).mpr h0) (fun h => h9 ((cond_last t).mp h)) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HX]; · iexact HX
  isplitl [HS]; · iexact HS
  iintro ⟨HT, H0, H1, H2, H3, H4, H5, H6, ⟨%d7, H7⟩, ⟨%d8, H8⟩, HX, HS⟩
  isplitl [HT Hp HX HS]
  · isplitl [HT]; · iexact HT
    isplitl [Hp]; · iexact Hp
    isplitl [HX]
    · iexists _; isplitr
      swap; · iexact HX
      ipureintro
      exact fun y hy => put_hAll m c t X hX y hy
    iexists _; isplitr
    swap; · iexact HS
    ipureintro
    intro n hn
    obtain rfl : n = k + 1 := by omega
    exact ssqAt_succ m c t k hk
  isplitl [Ho]; · iexact Ho
  isplitl [H0]
  · iexists _; isplitr
    swap; · iexact H0
    ipureintro; exact rfl
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  isplitl [H7]
  · iexists _; isplitr
    swap; · iexact H7
    ipureintro; exact fun h => absurd h h9
  iexists _; isplitr
  swap; · iexact H8
  ipureintro; exact fun h => absurd h h9

/-- The body at the last step. -/
theorem body_last (c : Dev nD) (t : Fin (cfgK m).N) (Y) (hY : ∀ w, (rdat m c).Finds w t (Y w)) (ht : t.val = 9) :
    bodyPre m c t Y ⊢ wp frame (wpE (defs₀ (F := F)) Variants.none c none) Set.univ (bodyAt0 (adm m (okT m)) t) (fun _ => bodyPost m c t Y) := by
  unfold bodyPre bodyPost bodyAt0
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  rw [e0, e1, e2, e3, e4, e5]
  rw [show (rdat m c).owesAt () t.succ = (rdat m c).owesAt () t.castSucc from rfl, rafter0, rafter1, rafter2, rafter3, rafter4, rafter5, rafter6, rafter7, rafter8]
  unfold inv
  iintro ⟨⟨HT, Hp, ⟨%X, %hX, HX⟩, ⟨%S, %hS, HS⟩⟩, Ho, H0, H1, H2, H3, H4, H5, H6, H7, H8⟩
  obtain ⟨k, hk⟩ : ∃ k, t.val = k + 1 := ⟨t.val - 1, by omega⟩
  have hS' := hS k hk
  subst hS'
  iapply (sound_last c Set.univ (grid0.coords t) _ _ _ _ _ _ _ _ _ _ _ _ _ _ _ _ _ _ _ _ _ _ _ _ (tbl m 0) (blkK m c 0 t) (blkK m c 1 t) (blkK m c 2 t) (blkK m c 3 t) (blkK m c 4 t) (blkK m c 5 t) X (ssqAt m c k) (fun h => by have := (cond_first t).mp h; omega) ((cond_later t).mpr (by omega)) ((cond_last t).mpr ht) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HX]; · iexact HX
  isplitl [HS]; · iexact HS
  iintro ⟨HT, H0, H1, H2, H3, H4, H5, H6, H7, H8, HX, HS⟩
  isplitl [HT Hp HX HS]
  · isplitl [HT]; · iexact HT
    isplitl [Hp]; · iexact Hp
    isplitl [HX]
    · iexists _; isplitr
      swap; · iexact HX
      ipureintro
      exact fun y hy => put_hAll m c t X hX y hy
    iexists _; isplitr
    swap; · iexact HS
    ipureintro
    intro n hn
    obtain rfl : n = k + 1 := by omega
    exact ssqAt_succ m c t k hk
  isplitl [Ho]; · iexact Ho
  isplitl [H0]
  · iexists _; isplitr
    swap; · iexact H0
    ipureintro; exact rfl
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  isplitl [H7]
  · iexists _; isplitr
    swap; · iexact H7
    ipureintro; intro _
    obtain rfl : k = 8 := by omega
    have e9 : pt m 9 = t := by rw [← ht]; exact pt_val m t
    unfold codesV; rw [e9]
    exact congrArg₂ (codesOf (blkK m c 5 t)) (put_last m c t ht X hX) (ssqAt_succ m c t 8 hk)
  iexists _; isplitr
  swap; · iexact H8
  ipureintro; intro _
  obtain rfl : k = 8 := by omega
  have e9 : pt m 9 = t := by rw [← ht]; exact pt_val m t
  unfold scaleV; rw [e9]
  exact congrArg₂ (scaleOf (blkK m c 5 t)) (put_last m c t ht X hX) (ssqAt_succ m c t 8 hk)

/-- The body of a step is the body of the launch at that step. -/
theorem defs₀_row (t : Fin (cfgK m).N) :
    defs₀ (F := F) .tc (cfgK m).body ((cfgK m).bodyArgs t ((cfgK m).slots t)) = bodyAt0 (adm m (okT m)) t := by
  unfold defs₀; rw [Defs.onTc_tc]

/-- The body obligation at every step. -/
theorem body_obligation (c : Dev nD) : (rdat m c).BodyObligation (defs₀ (F := F)) Variants.none () Set.univ := fun t Y hY => by
  rw [bigSep_W0, bigSep_W0, defs₀_row]
  have h : bodyPre m c t Y ⊢ wp frame (wpE (defs₀ (F := F)) Variants.none c none) Set.univ (bodyAt0 (adm m (okT m)) t) (fun _ => bodyPost m c t Y) := by
    by_cases h0 : t.val = 0
    · exact body_first m c t Y hY h0
    · by_cases h9 : t.val = 9
      · exact body_last m c t Y hY h9
      · exact body_mid m c t Y hY h0 h9
  exact triple_restated h rfl .rfl fun _ => .rfl

/-- What the region hands the body at first is the invariant before the first step. -/
theorem inv_in (c : Dev nD) : iprop(Pipeline.ΦA spec0 c ∗ Pipeline.ΦT pre0 (tbl m) c) ⊢ inv (F := F) m c 0 := by
  unfold Pipeline.ΦA inv
  rw [scopedRest0_eq, PhiT0_eq]
  iintro ⟨⟨⟨⟨%f0, H0⟩, ⟨%f1, H1⟩⟩, Hp⟩, HT⟩
  isplitl [HT]; · iexact HT
  isplitl [Hp]; · iexact Hp
  isplitl [H0]
  · iexists f0; isplitr; · ipureintro; exact fun y hy => absurd hy (by omega)
    rw [owns_whole]; iexact H0
  iexists f1; isplitr; · ipureintro; exact fun n hn => absurd hn (by omega)
  rw [owns_whole]; iexact H1

/-- The invariant after the last step gives the scratch buffers back. -/
theorem inv_out (c : Dev nD) (t : ℕ) : inv (F := F) m c t ⊢ Pipeline.ΦA spec0 c := by
  unfold Pipeline.ΦA inv
  rw [scopedRest0_eq]
  iintro ⟨-, Hp, ⟨%X, -, HX⟩, ⟨%S, -, HS⟩⟩
  isplitl [HX HS]
  · isplitl [HX]
    · iexists X; iapply (show owns (c : Thread nD τ) (Memref.whole cc0_scratch0) fullShare X ⊢ (((c : Thread nD τ).loc cc0_scratch0) ↦{fullShare} X : sProp 𝕄) from by rw [owns_whole])
      iexact HX
    iexists S; iapply (show owns (c : Thread nD τ) (Memref.whole cc0_scratch1) fullShare S ⊢ (((c : Thread nD τ).loc cc0_scratch1) ↦{fullShare} S : sProp 𝕄) from by rw [owns_whole])
    iexact HS
  iexact Hp

set_option backward.isDefEq.respectTransparency.types false in
set_option maxHeartbeats 800000 in
/-- Every execution ends, with every array of the region at contents the proof data allows, every other buffer as
    before, and every semaphore counter at zero. -/
theorem run_main_quiescent : θ_run defs (onTc (τ := τ) (main (F := F))) (s₀ m ρ)
    (fun r => Pipeline.RDat.FramePost (cfgK m) (rdat m) (V m) r ∧ r.2.sem = fun _ => 0) :=
  Pipeline.RDat.θ_run_frameP_track (Q' := _) pcfgs (fun _ => adm m (okT m)) (0 : Fin 1) launch0 defs₀ Variants.none (rdat m) m ρ main
    (hbody := fun c => body_obligation m c) (hshare := fun c w => by unfold Pipeline.RDat.share; split <;> rfl)
    (howed := fun _ _ => rfl) (V := V m) (hmain := hmain m Variants.none) (hA := rA_eq m) (hpf := fun c k => V_pre m c k)
    (hin := fun c => inv_in m c) (hout := fun c => inv_out m c _) (hQ' := fun _ h => h)

/-- The argument arrays end unchanged, and every semaphore counter is zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      (h.1.arr_in c 2 rfl).trans ((rA_eq m c 2).trans (V_main_arg2 m c)),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c)⟩, h.2⟩)
    (run_main_quiescent m ρ)

end Cert.KernelIdeal.Gen

end
-- ==== Proof.Exponent.lean ====
/- The exponent of a scale: counting the powers of two that are not above a value, and shifting the count into the
   exponent field of a word, gives the least power of two above the value. -/
module

public import Idealize.ShloMosaic.PureOps.Ideal
public import Idealize.ShloMosaic.Lib.Pointwise

@[expose] public section

noncomputable section

namespace Cert.Quant

open Idealize.ShloMosaic

/-- `2 ^ z`. -/
def pow2 (z : ℤ) : EReal := (((2 : ℝ) ^ z : ℝ) : EReal)

/-- A power of two is positive. -/
theorem pow2_pos (z : ℤ) : 0 < pow2 z := by
  unfold pow2; exact_mod_cast zpow_pos (by norm_num : (0 : ℝ) < 2) z

/-- Powers of two grow with the exponent. -/
theorem pow2_le {a b : ℤ} (h : a ≤ b) : pow2 a ≤ pow2 b := by
  unfold pow2; exact_mod_cast zpow_le_zpow_right₀ (by norm_num : (1 : ℝ) ≤ 2) h

/-- A power of two is finite. -/
theorem pow2_lt_top (z : ℤ) : pow2 z < ⊤ := EReal.coe_lt_top _

/-- The number with exponent field `k` and no other bit: `0`, `2 ^ (k - 127)`, or infinity. -/
def fieldVal (k : ℕ) : EReal := if k = 255 then ⊤ else if k = 0 then 0 else pow2 ((k : ℤ) - 127)

/-- The word with exponent field `k` and no other bit. -/
def fieldWord (k : BitVec 32) : BitVec 32 := IntOp.shli .vector k 23#32

/-- The word whose exponent field is `n` and whose other bits are zero has these parts. -/
theorem fieldWord_parts : ∀ n : Fin 256,
    ((fieldWord (BitVec.ofNat 32 n.val)).extractLsb' 31 1 == 1#1) = false
      ∧ ((fieldWord (BitVec.ofNat 32 n.val)).extractLsb' 23 8).toNat = n.val
      ∧ ((fieldWord (BitVec.ofNat 32 n.val)).extractLsb' 0 23).toNat = 0 := by
  decide +kernel

/-- What such a word denotes. -/
theorem ofBits_fieldWord (n : ℕ) (hn : n < 256) :
    Ideal.ofBits .f32 (fieldWord (BitVec.ofNat 32 n)) = fieldVal n := by
  obtain ⟨h1, h2, h3⟩ := fieldWord_parts ⟨n, hn⟩
  simp only at h1 h2 h3
  show Ideal.ieee 8 23 _ = _
  unfold Ideal.ieee fieldVal
  simp only [h1, h2, h3, Nat.reduceAdd]
  by_cases h255 : n = 255
  · simp [h255]
  · by_cases h0 : n = 0
    · simp [h0]
    · simp only [h255, h0, Nat.reducePow, Nat.reduceSub, if_false, Bool.false_eq_true]
      unfold pow2
      rw [EReal.coe_eq_coe_iff]
      push_cast
      rw [show ((n : ℤ) - 127) = 23 + ((n : ℤ) - 127 - 23) by ring, zpow_add₀ (by norm_num : (2 : ℝ) ≠ 0)]
      norm_num

/-- The value of such a word grows with its field. -/
theorem fieldVal_mono {a b : ℕ} (h : a ≤ b) (hb : b < 256) : fieldVal a ≤ fieldVal b := by
  unfold fieldVal
  by_cases hb1 : b = 255
  · rw [if_pos hb1]; exact le_top
  · rw [if_neg hb1, if_neg (by omega : a ≠ 255)]
    by_cases ha : a = 0
    · rw [if_pos ha]
      split
      · exact le_rfl
      · exact (pow2_pos _).le
    · rw [if_neg ha, if_neg (by omega)]
      exact pow2_le (by omega)

/-- The powers of two from `2 ^ -126` on are the field values from `1` on. -/
theorem fieldVal_succ (i : ℕ) (hi : i < 254) : fieldVal (i + 1) = pow2 ((i : ℤ) - 126) := by
  unfold fieldVal
  rw [if_neg (by omega), if_neg (by omega)]
  congr 1
  push_cast; ring

/-- Taking 126 from a small word takes 126 from its number. -/
theorem sub126 : ∀ i : Fin 254, (IntOp.subi (BitVec.ofNat 32 i.val) 126#32).toInt = (i.val : ℤ) - 126 := by
  decide +kernel

/-- The reference's power of two number `i` is `2 ^ (i - 126)`. -/
theorem exp2_lane (i : Fin 254) :
    FloatOps.exp2 (F := Ideal) (φ := .f32) (FloatOps.sitofp .f32 (IntOp.subi (BitVec.ofNat 32 i.val) 126#32))
      = pow2 ((i.val : ℤ) - 126) := by
  show Ideal.exp2 ((((IntOp.subi (BitVec.ofNat 32 i.val) 126#32).toInt : ℝ)) : EReal) = _
  rw [sub126 i]
  show ((Real.rpow 2 _ : ℝ) : EReal) = _
  unfold pow2
  congr 1
  exact Real.rpow_intCast 2 _

/-- The number of field values not above `v`, as a word. -/
def countWord (v : EReal) : BitVec 32 :=
  Finset.fold IntOp.addi (0#32)
    (fun x : Fin 256 => if v < Ideal.ofBits .f32 (IntOp.shli .vector (BitVec.ofNat 32 x.val) 23#32) then 0#32 else 1#32)
    Finset.univ

/-- The least power of two above `v`, as the reference takes it. -/
def leastAbove (v : EReal) : EReal :=
  Finset.fold min (Ideal.ofBits .f32 0x7F800000#32)
    (fun x : Fin 254 =>
      if v < FloatOps.exp2 (F := Ideal) (φ := .f32) (FloatOps.sitofp .f32 (IntOp.subi (BitVec.ofNat 32 x.val) 126#32))
      then FloatOps.exp2 (F := Ideal) (φ := .f32) (FloatOps.sitofp .f32 (IntOp.subi (BitVec.ofNat 32 x.val) 126#32))
      else Ideal.ofBits .f32 0x7F800000#32)
    Finset.univ

/-- The word of infinity. -/
theorem ofBits_top : Ideal.ofBits .f32 0x7F800000#32 = ⊤ := by
  simp [Ideal.ofBits, Ideal.ieee]

/-- A sum of indicators, as a word, is the number of places where the condition fails. -/
theorem fold_addi_count {ι : Type} (P : ι → Prop) [DecidablePred P] (S : Finset ι) :
    Finset.fold IntOp.addi (0#32) (fun x => if P x then 0#32 else 1#32) S
      = BitVec.ofNat 32 (S.filter fun x => ¬ P x).card := by
  classical
  induction S using Finset.induction_on with
  | empty => rfl
  | insert a S ha ih =>
    rw [Finset.fold_insert ha, ih, Finset.filter_insert]
    by_cases h : P a
    · rw [if_pos h, if_neg (by simpa using h)]
      show 0#32 + _ = _
      simp
    · rw [if_neg h, if_pos h, Finset.card_insert_of_notMem (by simp [ha]), Nat.add_comm, BitVec.ofNat_add]
      rfl

/-- Where the powers pass `v`: the first field value above `v`. -/
theorem exists_threshold (v : EReal) (h0 : 0 ≤ v) (h : v < pow2 126) :
    ∃ N : ℕ, 1 ≤ N ∧ N ≤ 253 ∧ ∀ k, k < 256 → (v < fieldVal k ↔ N ≤ k) := by
  classical
  have hex : ∃ k, v < fieldVal k := ⟨253, by simpa [fieldVal] using h⟩
  refine ⟨Nat.find hex, ?_, ?_, fun k hk => ⟨fun hv => Nat.find_min' hex hv, fun hk' => ?_⟩⟩
  · rw [Nat.one_le_iff_ne_zero]
    intro hz
    have := Nat.find_spec hex
    rw [hz] at this
    simp only [fieldVal] at this
    norm_num at this
    exact absurd this (not_lt.mpr h0)
  · exact Nat.find_min' hex (by simpa [fieldVal] using h)
  · exact (Nat.find_spec hex).trans_le (fieldVal_mono hk' hk)

/-- The count is the threshold, and the least power above `v` is the field value there. -/
theorem count_least (v : EReal) (h0 : 0 ≤ v) (h : v < pow2 126) :
    ∃ N : ℕ, 1 ≤ N ∧ N ≤ 253 ∧ countWord v = BitVec.ofNat 32 N ∧ leastAbove v = pow2 ((N : ℤ) - 127) := by
  obtain ⟨N, h1, h2, hN⟩ := exists_threshold v h0 h
  refine ⟨N, h1, h2, ?_, ?_⟩
  · unfold countWord
    rw [fold_addi_count]
    congr 1
    have : (Finset.univ.filter fun x : Fin 256 =>
        ¬ v < Ideal.ofBits .f32 (IntOp.shli .vector (BitVec.ofNat 32 x.val) 23#32))
        = Finset.univ.filter fun x : Fin 256 => x.val < N := by
      ext x
      simp only [Finset.mem_filter, Finset.mem_univ, true_and]
      rw [show Ideal.ofBits .f32 (IntOp.shli .vector (BitVec.ofNat 32 x.val) 23#32) = fieldVal x.val from
        ofBits_fieldWord x.val x.isLt, hN x.val x.isLt]
      omega
    rw [this, Fin.card_filter_val_lt]
    omega
  · unfold leastAbove
    simp only [exp2_lane, ofBits_top]
    have hq : ∀ i : Fin 254, (v < pow2 ((i.val : ℤ) - 126) ↔ N ≤ i.val + 1) := fun i => by
      rw [← fieldVal_succ i.val i.isLt]; exact hN _ (by have := i.isLt; omega)
    apply le_antisymm
    · rw [Finset.fold_min_le]
      right
      refine ⟨⟨N - 1, by omega⟩, Finset.mem_univ _, ?_⟩
      rw [if_pos ((hq _).mpr (by simp only; omega))]
      exact pow2_le (by simp only; omega)
    · rw [Finset.le_fold_min]
      refine ⟨le_top, fun i _ => ?_⟩
      split
      · rename_i hv
        exact pow2_le (by have := (hq i).mp hv; omega)
      · exact le_top

/-- The exponent word: the count less 127, or nothing where the row is zero. -/
def expWord (b : BitVec 1) (v : EReal) : BitVec 32 :=
  Scalar.select b (0#32) (IntOp.subi (IntOp.subi (countWord v) 1#32) 126#32)

/-- The exponent of a row of zeros is zero. -/
theorem expWord_zero (a v : EReal) (ha : a = 0) : expWord (BitVec.ofBool (decide (a = 0))) v = 0#32 := by
  rw [decide_eq_true ha]; rfl

/-- The exponent of any other row is the biased one less 126. -/
theorem expWord_ne (a v : EReal) (ha : a ≠ 0) :
    expWord (BitVec.ofBool (decide (a = 0))) v = IntOp.subi (IntOp.subi (countWord v) 1#32) 126#32 := by
  rw [decide_eq_false ha]; rfl

/-- The exponent that a count `n` gives, put back into an exponent field, is `n`; its negation gives `254 - n`. -/
theorem words : ∀ n : Fin 254, IntOp.addi (IntOp.subi (IntOp.subi (BitVec.ofNat 32 n.val) 1#32) 126#32) 127#32 = BitVec.ofNat 32 n.val
    ∧ IntOp.subi 127#32 (IntOp.subi (IntOp.subi (BitVec.ofNat 32 n.val) 1#32) 126#32) = BitVec.ofNat 32 (254 - n.val) := by
  decide +kernel

/-- The reference's scale of a row with largest magnitude `a`. -/
def scaleOfMax (a v : EReal) : EReal := if a = 0 then 1 else leastAbove v

/-- For a value below 2^126 the scale of the reference is a power of two, which the kernel's words for the scale and its inverse spell. -/
theorem scale_and_inverse (a v : EReal) (h0 : 0 ≤ v) (h : v < pow2 126) :
    ∃ z : ℤ, scaleOfMax a v = pow2 z
      ∧ Ideal.ofBits .f32 (IntOp.shli .vector (IntOp.addi (expWord (BitVec.ofBool (decide (a = 0))) v) 127#32) 23#32) = pow2 z
      ∧ Ideal.ofBits .f32 (IntOp.shli .vector (IntOp.subi 127#32 (expWord (BitVec.ofBool (decide (a = 0))) v)) 23#32) = pow2 (-z) := by
  by_cases ha : a = 0
  · refine ⟨0, ?_, ?_, ?_⟩
    · simp [scaleOfMax, ha, pow2]
    · rw [expWord_zero a v ha, (by decide : IntOp.addi (0#32) (127#32) = BitVec.ofNat 32 127)]
      exact (ofBits_fieldWord 127 (by norm_num)).trans (by simp [fieldVal])
    · rw [expWord_zero a v ha, (by decide : IntOp.subi (127#32) (0#32) = BitVec.ofNat 32 127)]
      exact (ofBits_fieldWord 127 (by norm_num)).trans (by simp [fieldVal])
  · obtain ⟨N, h1, h2, hc, hl⟩ := count_least v h0 h
    obtain ⟨w1, w2⟩ := words ⟨N, by omega⟩
    simp only at w1 w2
    have he := expWord_ne a v ha
    rw [hc] at he
    refine ⟨(N : ℤ) - 127, ?_, ?_, ?_⟩
    · rw [scaleOfMax, if_neg ha, hl]
    · rw [he, w1]
      refine (ofBits_fieldWord N (by omega)).trans ?_
      rw [fieldVal, if_neg (by omega), if_neg (by omega)]
    · rw [he, w2]
      refine (ofBits_fieldWord (254 - N) (by omega)).trans ?_
      rw [fieldVal, if_neg (by omega), if_neg (by omega)]
      congr 1
      omega

/-- The shifted exponent is the reference's scale. -/
theorem scale_eq (a v : EReal) (h0 : 0 ≤ v) (h : v < pow2 126) :
    Ideal.ofBits .f32 (IntOp.shli .vector (IntOp.addi (expWord (BitVec.ofBool (decide (a = 0))) v) 127#32) 23#32)
      = scaleOfMax a v := by
  obtain ⟨z, hs, h1, _⟩ := scale_and_inverse a v h0 h
  rw [h1, hs]

/-- Multiplying by the word of the negated exponent is dividing by the scale. -/
theorem mul_inverse (a v n : EReal) (h0 : 0 ≤ v) (h : v < pow2 126) :
    n * Ideal.ofBits .f32 (IntOp.shli .vector (IntOp.subi 127#32 (expWord (BitVec.ofBool (decide (a = 0))) v)) 23#32)
      = Ideal.div n (scaleOfMax a v) := by
  obtain ⟨z, hs, _, h2⟩ := scale_and_inverse a v h0 h
  rw [h2, hs]
  unfold pow2
  rw [Ideal.div_coe (zpow_ne_zero z (by norm_num)), one_div, zpow_neg]

end Cert.Quant

end
-- ==== Proof.Bound.lean ====
/- The normalised values are bounded: dividing a row by its root mean square leaves no element above the root of the
   row's length, so a finite gain keeps the scale's exponent inside its field. -/
module

public import proofs.«01_k».proof.Proof.Exponent

@[expose] public section

noncomputable section

namespace Cert.Quant

open Idealize.ShloMosaic

/-! The constants of the two programs. -/

/-- The word of minus infinity. -/
theorem ofBits_bot : Ideal.ofBits .f32 0xFF800000#32 = ⊥ := by
  simp [Ideal.ofBits, Ideal.ieee]

/-- The word of 5120. -/
theorem ofBits_len : Ideal.ofBits .f32 0x45A00000#32 = ((5120 : ℝ) : EReal) := by
  simp [Ideal.ofBits, Ideal.ieee, -EReal.coe_mul]; norm_num

/-- The word of the small number added under the root is a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- The word of 1/448 is a positive real below 0.0023. -/
theorem ofBits_inv448 : ∃ q : ℝ, 0 < q ∧ q < 0.0023 ∧ Ideal.ofBits .f32 0x3B124925#32 = (q : EReal) := by
  refine ⟨_, ?_, ?_, by simp [Ideal.ofBits, Ideal.ieee, -EReal.coe_mul]; rfl⟩
  · norm_num
  · norm_num

/-- The word of the largest finite float is a real of at most 2^128. -/
theorem ofBits_max : ∃ M : ℝ, M ≤ 2 ^ 128 ∧ Ideal.ofBits .f32 0x7F7FFFFF#32 = (M : EReal) := by
  refine ⟨_, ?_, by simp [Ideal.ofBits, Ideal.ieee, -EReal.coe_mul]; rfl⟩
  norm_num

/-! The quantities of a row. -/

/-- The sum of squares. -/
def sumSq (h : Fin 5120 → EReal) : EReal := ∑ j, h j * h j

/-- The normalised row with its gain. -/
def normed (h g : Fin 5120 → EReal) (j : Fin 5120) : EReal :=
  h j * Ideal.rsqrt (Ideal.div (sumSq h) (Ideal.ofBits .f32 0x45A00000#32) + Ideal.ofBits .f32 0x3727C5AC#32) * g j

/-- Its largest magnitude. -/
def rowMax (h g : Fin 5120 → EReal) : EReal :=
  Finset.fold max (Ideal.ofBits .f32 0xFF800000#32) (fun j => FloatOps.absf (F := Ideal) (φ := .f32) (normed h g j)) Finset.univ

/-- The value whose exponent the scale takes. -/
def rowVal (h g : Fin 5120 → EReal) : EReal := rowMax h g * Ideal.ofBits .f32 0x3B124925#32

/-- The scale of a row of the stream. -/
def rowScale (h g : Fin 5120 → EReal) : EReal := scaleOfMax (rowMax h g) (rowVal h g)

/-- A code of a row of the stream: divided by the scale and clipped. -/
def rowCode (h g : Fin 5120 → EReal) (j : Fin 5120) : EReal :=
  min (Ideal.ofBits .f32 0x43E00000#32) (max (Ideal.ofBits .f32 0xC3E00000#32) (Ideal.div (normed h g j) (rowScale h g)))

/-- A square is not negative. -/
theorem sq_nonneg' (x : EReal) : 0 ≤ x * x := by
  induction x with
  | bot => simp
  | top => simp
  | coe x => exact_mod_cast mul_self_nonneg x

/-- A sum of squares is not negative. -/
theorem sumSq_nonneg (h : Fin 5120 → EReal) : 0 ≤ sumSq h := Finset.sum_nonneg fun j _ => sq_nonneg' (h j)

/-- One square of a row is at most the sum of all. -/
theorem le_sumSq (h : Fin 5120 → EReal) (j : Fin 5120) : h j * h j ≤ sumSq h :=
  Finset.single_le_sum (f := fun j => h j * h j) (fun j _ => sq_nonneg' (h j)) (Finset.mem_univ j)

/-- The absolute value is the larger of a number and its negation. -/
theorem abs_eq (x : EReal) : FloatOps.absf (F := Ideal) (φ := .f32) x = max x (-x) := rfl

/-- The real fact: an element over the root mean square is at most the root of the length. -/
theorem real_bound (x s e g M : ℝ) (he : 0 < e) (hx : x * x ≤ s) (hg : |g| ≤ M) :
    |x * (Real.sqrt (s * (1 / 5120) + e))⁻¹ * g| ≤ 72 * M := by
  have ht : 0 < s * (1 / 5120) + e := by nlinarith [mul_self_nonneg x]
  have hr := Real.sqrt_pos.mpr ht
  have h1 : |x * (Real.sqrt (s * (1 / 5120) + e))⁻¹| ≤ 72 := by
    rw [abs_mul, abs_inv, abs_of_pos hr, mul_inv_le_iff₀ hr]
    refine abs_le_of_sq_le_sq ?_ (by positivity)
    rw [mul_pow, Real.sq_sqrt ht.le]
    nlinarith
  rw [abs_mul]
  exact mul_le_mul h1 hg (abs_nonneg _) (by norm_num)

/-- With a gain of at most `M`, a normalised entry is at most `72 M` in magnitude, whatever the stream holds. -/
theorem normed_bound (h g : Fin 5120 → EReal) (M : ℝ) (j : Fin 5120) (hg : max (g j) (-(g j)) ≤ (M : EReal)) :
    max (normed h g j) (-(normed h g j)) ≤ ((72 * M : ℝ) : EReal) := by
  obtain ⟨e, he, hee⟩ := ofBits_eps
  have hM : 0 ≤ M := by
    have : (0 : EReal) ≤ (M : EReal) := by
      refine le_trans ?_ hg
      rcases le_total 0 (g j) with h0 | h0
      · exact le_max_of_le_left h0
      · exact le_max_of_le_right (by simpa using EReal.neg_le_neg_iff.mpr h0)
    exact_mod_cast this
  unfold normed
  rw [ofBits_len, Ideal.div_coe (by norm_num), hee]
  have hS0 := sumSq_nonneg h
  have hj := le_sumSq h j
  generalize sumSq h = S at hS0 hj
  induction S with
  | bot => simp at hS0
  | top =>
    rw [EReal.top_mul_coe_of_pos (by norm_num), EReal.top_add_coe]
    show max (h j * 0 * g j) (-(h j * 0 * g j)) ≤ _
    simp only [mul_zero, zero_mul, neg_zero, max_self]
    exact_mod_cast (by linarith : 0 ≤ 72 * M)
  | coe s =>
    generalize h j = x at hj
    generalize g j = y at hg
    induction x with
    | bot => simp at hj
    | top => simp at hj
    | coe x =>
      induction y with
      | bot => simp at hg
      | top => simp at hg
      | coe y =>
        have hx : x * x ≤ s := by exact_mod_cast hj
        have ht : 0 < s * (1 / 5120) + e := by nlinarith [mul_self_nonneg x]
        have hy : |y| ≤ M := by
          have h1 : (y : EReal) ≤ M := le_trans (le_max_left _ _) hg
          have h2 : -(y : EReal) ≤ M := le_trans (le_max_right _ _) hg
          rw [abs_le]
          constructor
          · have : -y ≤ M := by exact_mod_cast h2
            linarith
          · exact_mod_cast h1
        have hr : Ideal.rsqrt ((s : EReal) * ((1 / 5120 : ℝ) : EReal) + (e : EReal))
            = (((Real.sqrt (s * (1 / 5120) + e))⁻¹ : ℝ) : EReal) := by
          rw [← EReal.coe_mul, ← EReal.coe_add]
          show (if _ then _ else if _ then _ else _) = _
          rw [if_neg (not_lt.mpr ht.le), if_neg ht.ne']
        rw [hr, ← EReal.coe_mul, ← EReal.coe_mul, ← EReal.coe_neg, max_le_iff]
        have hb := real_bound x s e y M he hx hy
        rw [abs_le] at hb
        constructor
        · exact_mod_cast hb.2
        · exact_mod_cast (by linarith [hb.1] : -(x * (Real.sqrt (s * (1 / 5120) + e))⁻¹ * y) ≤ 72 * M)

/-- The largest absolute value of a row is not negative. -/
theorem rowMax_nonneg (h g : Fin 5120 → EReal) : 0 ≤ rowMax h g := by
  unfold rowMax
  rw [Finset.le_fold_max]
  right
  refine ⟨0, Finset.mem_univ _, ?_⟩
  rw [abs_eq]
  rcases le_total 0 (normed h g 0) with h0 | h0
  · exact le_max_of_le_left h0
  · exact le_max_of_le_right (by simpa using EReal.neg_le_neg_iff.mpr h0)

/-- With a finite gain the scale's exponent stays inside its field. -/
theorem rowVal_bounds (h g : Fin 5120 → EReal)
    (hg : ∀ j, max (g j) (-(g j)) ≤ Ideal.ofBits .f32 0x7F7FFFFF#32) :
    0 ≤ rowVal h g ∧ rowVal h g < pow2 126 := by
  obtain ⟨q, hq0, hq1, hq⟩ := ofBits_inv448
  obtain ⟨M, hM, hMe⟩ := ofBits_max
  have h0 := rowMax_nonneg h g
  have h1 : rowMax h g ≤ ((72 * M : ℝ) : EReal) := by
    unfold rowMax
    rw [Finset.fold_max_le]
    refine ⟨by rw [ofBits_bot]; exact bot_le, fun j _ => ?_⟩
    rw [abs_eq]
    exact normed_bound h g M j (by rw [← hMe]; exact hg j)
  unfold rowVal
  rw [hq]
  generalize rowMax h g = a at h0 h1
  induction a with
  | bot => simp at h0
  | top => exact absurd h1 (not_le.mpr (EReal.coe_lt_top _))
  | coe a =>
    have h0' : 0 ≤ a := by exact_mod_cast h0
    have h1' : a ≤ 72 * M := by exact_mod_cast h1
    rw [← EReal.coe_mul]
    constructor
    · exact_mod_cast mul_nonneg h0' hq0.le
    · unfold pow2
      rw [EReal.coe_lt_coe_iff]
      have : a * q ≤ 72 * 2 ^ 128 * 0.0023 := by
        apply mul_le_mul (by linarith) hq1.le hq0.le (by norm_num)
      refine lt_of_le_of_lt this ?_
      norm_num

end Cert.Quant

end
-- ==== Proof.IdealRead.lean ====
/- The kernel's arithmetic read at an index, over the extended reals: a step's block of the residual stream, its partial
   sums of squares, and the codes and scales of the last step. -/
module

public import proofs.«01_k».proof.Proof.IdealChunk
public import proofs.«01_k».proof.Proof.Bound
public import Idealize.ShloMosaic.PureOps.IdealRules

@[expose] public section

set_option maxRecDepth 16384

noncomputable section

namespace Cert.KernelIdeal.Gen

open Idealize.ShloMosaic Cert.Quant

/-- The named constant is the exact reciprocal of the row length. -/
theorem named_inv_n : Named.named (F := Ideal) κ "inv_n" (φ := .f32) 0x394CCCCD#32 = ((1 / 5120 : ℝ) : EReal) :=
  IdealRules.named_const.ideal_named_scalar _ _ _ _ rfl

/-- A block's product with its scales. -/
theorem pay14_apply (x : FVec Ideal S256x8192 .fp8e4m3) (w : FVec Ideal S8192x512 .fp8e4m3) (a : FVec Ideal S256x1 .f32)
    (b : FVec Ideal S1x512 .f32) (r : Fin 256) (j : Fin 512) :
    k0_pay14 (F := Ideal) x w a b (ix2 r j)
      = (∑ k : Fin 8192, x (ix2 r k) * w (ix2 k j)) * a (ix2 r 0) * b (ix2 0 j) := by
  pointwise [k0_pay14]

/-- The residual added where the row is valid. -/
theorem pay1_apply (n : FVec Ideal S256x512 .f32) (b : IVec S256x1 1) (x : FVec Ideal S256x512 .bf16) (r : Fin 256) (j : Fin 512) :
    k0_pay1 (F := Ideal) n b x (ix2 r j) = Scalar.select (b (ix2 r 0)) (x (ix2 r j) + n (ix2 r j)) 0 := by
  pointwise [k0_pay1]

/-- The four squares a step adds in a lane. -/
theorem pay3_apply (n : FVec Ideal S256x512 .f32) (b : IVec S256x1 1) (x : FVec Ideal S256x512 .bf16) (r : Fin 256) (l : Fin 128) :
    k0_pay3 (F := Ideal) n b x (ix2 r l)
      = ∑ q : Fin 4, k0_pay1 n b x (ix2 r ⟨128 * q.val + l.val, by omega⟩) * k0_pay1 n b x (ix2 r ⟨128 * q.val + l.val, by omega⟩) := by
  rw [Fin.sum_univ_four]
  pointwise [k0_pay3]

/-- The first step sets the partial sums to those of its block. -/
theorem pay4_apply (n : FVec Ideal S256x512 .f32) (b : IVec S256x1 1) (x : FVec Ideal S256x512 .bf16) (r : Fin 256) (l : Fin 128) :
    k0_pay4 (F := Ideal) n b x (ix2 r l) = k0_pay3 n b x (ix2 r l) := by
  pointwise [k0_pay4]

/-- A later step adds the partial sums of its block. -/
theorem pay5_apply (n : FVec Ideal S256x512 .f32) (b : IVec S256x1 1) (x : FVec Ideal S256x512 .bf16) (s : FVec Ideal S256x128 .f32)
    (r : Fin 256) (l : Fin 128) :
    k0_pay5 (F := Ideal) n b x s (ix2 r l) = s (ix2 r l) + k0_pay3 n b x (ix2 r l) := by
  pointwise [k0_pay5]

/-! The last step, a chunk of rows at a time. `h` is a row of the stream and `g` the gain. -/

section

variable (s : FVec Ideal S32x128 .f32) (hc : FVec Ideal S32x5120 .bf16) (g : FVec Ideal S1x5120 .f32) (r : Fin 32)

/-- The normalised stream of a chunk, at an index. -/
theorem pay9_apply (hs : ∑ l, s (ix2 r l) = sumSq fun j => hc (ix2 r j)) (j : Fin 5120) :
    k0_pay9 (F := Ideal) s hc g (ix2 r j) = normed (fun j => hc (ix2 r j)) (fun j => g (ix2 0 j)) j := by
  pointwise [k0_pay9]
  rw [hs, named_inv_n, normed, ofBits_len, Ideal.div_coe (by norm_num)]

/-- The largest absolute value of a row of a chunk. -/
theorem pay10_apply (hs : ∑ l, s (ix2 r l) = sumSq fun j => hc (ix2 r j)) :
    k0_pay10 (F := Ideal) s hc g (ix2 r 0) = rowMax (fun j => hc (ix2 r j)) (fun j => g (ix2 0 j)) := by
  pointwise [k0_pay10]
  unfold rowMax
  refine congrArg (fun f : Fin 5120 → EReal => Finset.fold max _ f Finset.univ) (funext fun j => ?_)
  rw [pay9_apply s hc g r hs j]

/-- The biased exponent of a row of a chunk: one less than the count of powers of two that are not above its value. -/
theorem pay11_apply (hs : ∑ l, s (ix2 r l) = sumSq fun j => hc (ix2 r j)) :
    k0_pay11 (F := Ideal) s hc g (ix2 r 0)
      = IntOp.subi (countWord (rowVal (fun j => hc (ix2 r j)) (fun j => g (ix2 0 j)))) 1#32 := by
  pointwise [k0_pay11]
  unfold rowVal countWord
  rw [← pay10_apply s hc g r hs]
  exact congrArg (fun f : Fin 256 → BitVec 32 => IntOp.subi (Finset.fold IntOp.addi 0#32 f Finset.univ) 1#32)
    (funext fun x => if_congr Iff.rfl rfl rfl)

/-- Whether a row of a chunk is all zero. -/
theorem pay12_apply (hs : ∑ l, s (ix2 r l) = sumSq fun j => hc (ix2 r j)) :
    k0_pay12 (F := Ideal) s hc g (ix2 r 0)
      = BitVec.ofBool (decide (rowMax (fun j => hc (ix2 r j)) (fun j => g (ix2 0 j)) = 0)) := by
  pointwise [k0_pay12]
  rw [pay10_apply s hc g r hs]

/-- The scale that an exponent stands for. -/
theorem pay7_apply (a : IVec S32x1 32) (b : IVec S32x1 1) (r : Fin 32) :
    k0_pay7 (F := Ideal) a b k0_pay13 (ix2 r 0)
      = Ideal.ofBits .f32 (IntOp.shli .vector (IntOp.addi
          (Scalar.select (b (ix2 r 0)) (0#32) (IntOp.subi (a (ix2 r 0)) 126#32)) 127#32) 23#32) := by
  pointwise [k0_pay7, k0_pay6, k0_pay13]

/-- The code of an entry, from the exponent of its row. -/
theorem pay8_apply (n : FVec Ideal S32x5120 .f32) (a : IVec S32x1 32) (b : IVec S32x1 1) (r : Fin 32) (j : Fin 5120) :
    k0_pay8 (F := Ideal) n a b k0_pay13 (ix2 r j)
      = min (Ideal.ofBits .f32 0x43E00000#32) (max (Ideal.ofBits .f32 0xC3E00000#32)
          (n (ix2 r j) * Ideal.ofBits .f32 (IntOp.shli .vector (IntOp.subi 127#32
            (Scalar.select (b (ix2 r 0)) (0#32) (IntOp.subi (a (ix2 r 0)) 126#32))) 23#32))) := by
  pointwise [k0_pay8, k0_pay6, k0_pay13]

end

section

variable (g : FVec Ideal S1x5120 .f32) (H : FVec Ideal S256x5120 .bf16) (S : FVec Ideal S256x128 .f32)
    (hg : ∀ j : Fin 5120, max (g (ix2 0 j)) (-(g (ix2 0 j))) ≤ Ideal.ofBits .f32 0x7F7FFFFF#32)
    (r : Fin 256) (hs : ∑ l : Fin 128, S (ix2 r l) = sumSq fun j => H (ix2 r j))

/-- Row `r % 32` of chunk `r / 32` is row `r`. -/
theorem chunk_row (r : Fin 256) (a : 32 * (⟨r.val / 32, by omega⟩ : Fin 8).val + (⟨r.val % 32, by omega⟩ : Fin 32).val < 256) :
    (⟨32 * (⟨r.val / 32, by omega⟩ : Fin 8).val + (⟨r.val % 32, by omega⟩ : Fin 32).val, a⟩ : Fin 256) = r :=
  Fin.ext (by simp only; omega)

/-- Row `r` of the stream, found in its chunk. -/
theorem hRows_chunk (j : Fin 5120) :
    hRows (F := Ideal) H ⟨r.val / 32, by omega⟩ (ix2 ⟨r.val % 32, by omega⟩ j) = H (ix2 r j) := by
  unfold hRows
  exact congrArg (fun q => H (ix2 q j)) (chunk_row r _)

/-- Row `r` of the partial sums, found in its chunk. -/
theorem sumRows_chunk (l : Fin 128) :
    sumRows (F := Ideal) S ⟨r.val / 32, by omega⟩ (ix2 ⟨r.val % 32, by omega⟩ l) = S (ix2 r l) := by
  unfold sumRows
  exact congrArg (fun q => S (ix2 q l)) (chunk_row r _)

/-- The scale of row `r`, found in its chunk. -/
theorem scaleOf_chunk : scaleOf (F := Ideal) g H S (ix2 r 0)
    = chunkScale (F := Ideal) g H S ⟨r.val / 32, by omega⟩ (ix2 ⟨r.val % 32, by omega⟩ 0) := by
  unfold scaleOf; rfl

/-- The codes of row `r`, found in their chunk. -/
theorem codesOf_chunk (j : Fin 5120) : codesOf (F := Ideal) g H S (ix2 r j)
    = chunkCodes (F := Ideal) g H S ⟨r.val / 32, by omega⟩ (ix2 ⟨r.val % 32, by omega⟩ j) := by
  unfold codesOf; rfl

include hg hs in
/-- The kernel's scales, read at a row. -/
theorem scaleOf_apply : scaleOf (F := Ideal) g H S (ix2 r 0) = rowScale (fun j => H (ix2 r j)) (fun j => g (ix2 0 j)) := by
  have hs' : ∑ l, sumRows (F := Ideal) S ⟨r.val / 32, by omega⟩ (ix2 ⟨r.val % 32, by omega⟩ l)
      = sumSq fun j => hRows (F := Ideal) H ⟨r.val / 32, by omega⟩ (ix2 ⟨r.val % 32, by omega⟩ j) := by
    simp only [hRows_chunk, sumRows_chunk]; exact hs
  have hb := rowVal_bounds (fun j => H (ix2 r j)) (fun j => g (ix2 0 j)) hg
  rw [scaleOf_chunk]
  unfold chunkScale
  refine (pay7_apply _ _ _).trans ?_
  rw [pay11_apply _ _ _ _ hs', pay12_apply _ _ _ _ hs']
  simp only [hRows_chunk]
  exact scale_eq _ _ hb.1 hb.2

include hg hs in
/-- The kernel's codes, read at an index. -/
theorem codesOf_apply (j : Fin 5120) :
    codesOf (F := Ideal) g H S (ix2 r j) = rowCode (fun j => H (ix2 r j)) (fun j => g (ix2 0 j)) j := by
  have hs' : ∑ l, sumRows (F := Ideal) S ⟨r.val / 32, by omega⟩ (ix2 ⟨r.val % 32, by omega⟩ l)
      = sumSq fun j => hRows (F := Ideal) H ⟨r.val / 32, by omega⟩ (ix2 ⟨r.val % 32, by omega⟩ j) := by
    simp only [hRows_chunk, sumRows_chunk]; exact hs
  have hb := rowVal_bounds (fun j => H (ix2 r j)) (fun j => g (ix2 0 j)) hg
  rw [codesOf_chunk]
  unfold chunkCodes
  refine (pay8_apply _ _ _ _ _).trans ?_
  rw [pay11_apply _ _ _ _ hs', pay12_apply _ _ _ _ hs', pay9_apply _ _ _ _ hs']
  simp only [hRows_chunk]
  unfold rowCode rowScale
  rw [← mul_inverse _ _ _ hb.1 hb.2]
  rfl

end

end Cert.KernelIdeal.Gen

end
-- ==== Proof.Stream.lean ====
/- One entry of the residual stream, as a function of the numbers it depends on. -/
module

public import Idealize.ShloMosaic.Lib.Pipeline.ValueKit
public import Idealize.ShloMosaic.PureOps.Ideal

@[expose] public section

noncomputable section

namespace Cert.Quant

open Idealize.ShloMosaic

/-- The residual plus the scaled product of a row of codes and a column of weights where the row is valid, zero elsewhere. -/
def streamAt (valid : BitVec 1) (x w : Fin 8192 → EReal) (a b res : EReal) : EReal :=
  Scalar.select valid (res + (∑ k, x k * w k) * a * b) 0

end Cert.Quant

end
-- ==== Proof.IdealStream.lean ====
/- The residual stream a step computes, entry by entry, in terms of the arrays the region finds. -/
module

public import proofs.«01_k».proof.Proof.IdealData
public import proofs.«01_k».proof.Proof.IdealRead
public import proofs.«01_k».proof.Proof.Stream
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.SL Idealize.SL.Sem Cert.Quant

variable (m : (ℓ : Loc nD τ sig) → Buf (Elt Ideal) ℓ)

/-- Every window's block index at a step. -/
theorem idxK (a : (pcfg0 (F := Ideal)).Adm) : ∀ t : Fin (cfg0 a).N,
    ((cfg0 a).win 0).index t = ![0, 0] ∧ ((cfg0 a).win 1).index t = ![0, 0] ∧ ((cfg0 a).win 2).index t = ![0, t.val]
      ∧ ((cfg0 a).win 3).index t = ![0, t.val] ∧ ((cfg0 a).win 4).index t = ![0, t.val] ∧ ((cfg0 a).win 5).index t = ![0, 0]
      ∧ ((cfg0 a).win 6).index t = ![0, t.val] ∧ ((cfg0 a).win 7).index t = ![0, 0] ∧ ((cfg0 a).win 8).index t = ![0, 0] :=
  (by decide +kernel : ∀ t : Fin grid0.N,
    cc0_transform_0 (grid0.coords t) = ![0, 0] ∧ cc0_transform_1 (grid0.coords t) = ![0, 0] ∧ cc0_transform_2 (grid0.coords t) = ![0, t.val]
      ∧ cc0_transform_3 (grid0.coords t) = ![0, t.val] ∧ cc0_transform_4 (grid0.coords t) = ![0, t.val] ∧ cc0_transform_5 (grid0.coords t) = ![0, 0]
      ∧ cc0_transform_6 (grid0.coords t) = ![0, t.val] ∧ cc0_transform_7 (grid0.coords t) = ![0, 0] ∧ cc0_transform_8 (grid0.coords t) = ![0, 0])

/-- The codes' block is the whole input, at every step. -/
theorem blk0_apply (c : Dev nD) (t : Fin (cfgK m).N) (r : Fin 256) (k : Fin 8192) :
    blkK m c 0 t (ix2 r k) = V m c main_v0 (ix2 r k) := by
  blk_ext! [blkK, iblk, idxK (adm m (okT m)) t]

/-- The weight block of a step is its 512 columns. -/
theorem blk2_apply (c : Dev nD) (t : Fin (cfgK m).N) (k : Fin 8192) (j : Fin 512) (J : Fin 5120) (hJ : J.val = 512 * t.val + j.val) :
    blkK m c 2 t (ix2 k j) = V m c main_arg2 (ix2 k J) := by
  blk_ext! [blkK, iblk, idxK (adm m (okT m)) t]

/-- The row scales' block is the whole input, at every step. -/
theorem blk1_apply (c : Dev nD) (t : Fin (cfgK m).N) (r : Fin 256) :
    blkK m c 1 t (ix2 r 0) = V m c main_v1 (ix2 r 0) := by
  blk_ext! [blkK, iblk, idxK (adm m (okT m)) t]

/-- The column scales' block of a step is its 512 columns. -/
theorem blk3_apply (c : Dev nD) (t : Fin (cfgK m).N) (j : Fin 512) (J : Fin 5120) (hJ : J.val = 512 * t.val + j.val) :
    blkK m c 3 t (ix2 0 j) = V m c main_v2 (ix2 0 J) := by
  blk_ext! [blkK, iblk, idxK (adm m (okT m)) t]

/-- The residual's block of a step is its 512 columns. -/
theorem blk4_apply (c : Dev nD) (t : Fin (cfgK m).N) (r : Fin 256) (j : Fin 512) (J : Fin 5120) (hJ : J.val = 512 * t.val + j.val) :
    blkK m c 4 t (ix2 r j) = V m c main_v3 (ix2 r J) := by
  blk_ext! [blkK, iblk, idxK (adm m (okT m)) t]

/-- The gain's block is the whole input, at every step. -/
theorem blk5_apply (c : Dev nD) (t : Fin (cfgK m).N) (j : Fin 5120) :
    blkK m c 5 t (ix2 0 j) = V m c main_v4 (ix2 0 j) := by
  blk_ext! [blkK, iblk, idxK (adm m (okT m)) t]

/-- The residual stream at row `r`, column `j`. -/
def streamK (c : Dev nD) (r : Fin 256) (j : Fin 5120) : EReal :=
  streamAt (maskB m c (ix2 r 0)) (fun k => V m c main_v0 (ix2 r k)) (fun k => V m c main_arg2 (ix2 k j))
    (V m c main_v1 (ix2 r 0)) (V m c main_v2 (ix2 0 j)) (V m c main_v3 (ix2 r j))

/-- A block of the stream from its operands' blocks. -/
theorem block_apply (x : FVec Ideal S256x8192 .fp8e4m3) (w : FVec Ideal S8192x512 .fp8e4m3) (a : FVec Ideal S256x1 .f32)
    (b : FVec Ideal S1x512 .f32) (v : IVec S256x1 1) (h : FVec Ideal S256x512 .bf16) (r : Fin 256) (j : Fin 512) :
    k0_pay1 (F := Ideal) (k0_pay14 x w a b) v h (ix2 r j)
      = streamAt (v (ix2 r 0)) (fun k => x (ix2 r k)) (fun k => w (ix2 k j)) (a (ix2 r 0)) (b (ix2 0 j)) (h (ix2 r j)) := by
  rw [pay1_apply, pay14_apply]; rfl

/-- An entry of the stream depends only on its row, its column, its scales and its residual. -/
theorem streamAt_congr {v : BitVec 1} {x x' w w' : Fin 8192 → EReal} {a a' b b' h h' : EReal} (hx : ∀ k, x k = x' k)
    (hw : ∀ k, w k = w' k) (ha : a = a') (hb : b = b') (hh : h = h') : streamAt v x w a b h = streamAt v x' w' a' b' h' := by
  obtain rfl : x = x' := funext hx
  obtain rfl : w = w' := funext hw
  subst ha hb hh; rfl

/-- A step's block of the stream, entry by entry. -/
theorem hB_apply (c : Dev nD) (t : Fin (cfgK m).N) (r : Fin 256) (j : Fin 512) (J : Fin 5120) (hJ : J.val = 512 * t.val + j.val) :
    hB m c t (ix2 r j) = streamK m c r J :=
  (block_apply _ _ _ _ _ _ r j).trans
    (streamAt_congr (fun k => blk0_apply m c t r k) (fun k => blk2_apply m c t k j J hJ) (blk1_apply m c t r)
      (blk3_apply m c t j J hJ) (blk4_apply m c t r j J hJ))

/-- The whole stream, entry by entry. -/
theorem hAll_apply (c : Dev nD) (r : Fin 256) (j : Fin 5120) : hAll m c (ix2 r j) = streamK m c r j :=
  hB_apply m c (pt m (j.val / 512)) r ⟨j.val % 512, by omega⟩ j (by
    show j.val = 512 * (j.val / 512 % 10) + j.val % 512
    omega)

/-- The square of the stream at a column number, zero past the row. -/
def squareAt (c : Dev nD) (r : Fin 256) (n : ℕ) : EReal :=
  if h : n < 5120 then streamK m c r ⟨n, h⟩ * streamK m c r ⟨n, h⟩ else 0

/-- What a step adds to a lane's partial sum. -/
theorem step_apply (c : Dev nD) (n : ℕ) (hn : n < 10) (r : Fin 256) (l : Fin 128) :
    k0_pay3 (accB m c (pt m n)) (maskB m c) (blkK m c 4 (pt m n)) (ix2 r l)
      = ∑ q : Fin 4, squareAt m c r (512 * n + 128 * q.val + l.val) := by
  refine (pay3_apply _ _ _ r l).trans ?_
  refine Finset.sum_congr rfl fun q _ => ?_
  have hlt : 512 * n + 128 * q.val + l.val < 5120 := by omega
  have e := hB_apply m c (pt m n) r ⟨128 * q.val + l.val, by omega⟩ ⟨512 * n + 128 * q.val + l.val, hlt⟩ (by
    show 512 * n + 128 * q.val + l.val = 512 * (n % 10) + (128 * q.val + l.val)
    omega)
  unfold squareAt
  rw [dif_pos hlt]
  exact congrArg₂ (fun x y : EReal => x * y) e e

/-- A lane's partial sum after step `n`. -/
theorem ssqAt_apply (c : Dev nD) (r : Fin 256) (l : Fin 128) : ∀ n, n < 10 →
    ssqAt m c n (ix2 r l) = ∑ i ∈ Finset.range (n + 1), ∑ q : Fin 4, squareAt m c r (512 * i + 128 * q.val + l.val)
  | 0, h => by
    rw [Finset.sum_range_one]
    exact (pay4_apply _ _ _ r l).trans (step_apply m c 0 h r l)
  | n + 1, h => by
    rw [Finset.sum_range_succ, ← ssqAt_apply c r l n (by omega), ← step_apply m c (n + 1) h r l]
    exact pay5_apply _ _ _ _ r l

/-- A sum over `a * b` consecutive numbers, `b` at a time. -/
theorem sum_range_block (f : ℕ → EReal) (b : ℕ) : ∀ a, ∑ i ∈ Finset.range (b * a), f i = ∑ i ∈ Finset.range a, ∑ j ∈ Finset.range b, f (b * i + j)
  | 0 => by simp
  | a + 1 => by rw [Nat.mul_succ, Finset.sum_range_add, sum_range_block f b a, Finset.sum_range_succ]

/-- The lanes' sums after the last step add up to the row's sum of squares. -/
theorem ssq_total (c : Dev nD) (r : Fin 256) :
    ∑ l : Fin 128, ssqAt m c 9 (ix2 r l) = sumSq fun j => hAll m c (ix2 r j) := by
  have hr : (sumSq fun j => hAll m c (ix2 r j)) = ∑ n ∈ Finset.range 5120, squareAt m c r n := by
    unfold sumSq
    rw [Finset.sum_range]
    refine Finset.sum_congr rfl fun j _ => ?_
    unfold squareAt
    rw [dif_pos j.isLt]
    exact congrArg₂ (fun x y : EReal => x * y) (hAll_apply m c r j) (hAll_apply m c r j)
  rw [hr, show (5120 : ℕ) = 512 * 10 from rfl, sum_range_block _ 512 10]
  calc ∑ l : Fin 128, ssqAt m c 9 (ix2 r l)
      = ∑ l : Fin 128, ∑ i ∈ Finset.range 10, ∑ q : Fin 4, squareAt m c r (512 * i + 128 * q.val + l.val) :=
        Finset.sum_congr rfl fun l _ => ssqAt_apply m c r l 9 (by omega)
    _ = ∑ i ∈ Finset.range 10, ∑ l : Fin 128, ∑ q : Fin 4, squareAt m c r (512 * i + 128 * q.val + l.val) := Finset.sum_comm
    _ = _ := Finset.sum_congr rfl fun i _ => by
      rw [show (512 : ℕ) = 128 * 4 from rfl, sum_range_block (fun j => squareAt m c r (128 * 4 * i + j)) 128 4, Finset.sum_comm, Finset.sum_range]
      refine Finset.sum_congr rfl fun q _ => ?_
      rw [Finset.sum_range]
      exact Finset.sum_congr rfl fun l _ => by rw [Nat.add_assoc]

end Cert.KernelIdeal.Gen

end
-- ==== Proof.IdealValue.lean ====
/- What the kernel's three result arrays hold when it ends, entry by entry. -/
module

public import proofs.«01_k».proof.Proof.IdealRun
public import proofs.«01_k».proof.Proof.IdealStream

@[expose] public section

set_option maxRecDepth 16384

noncomputable section

namespace Cert.KernelIdeal.Gen

open Idealize.ShloMosaic Idealize.ShloMosaic.TcCoe Idealize.SL Idealize.SL.Sem Cert.Quant

variable (m : (ℓ : Loc nD τ sig) → Buf (Elt Ideal) ℓ) (ρ : Dev nD → PrngReg)

/-- The blocks of the stream cover its array. -/
theorem covers6 : ((cfgK m).win 6).Covers := by
  refine ⟨fun a => ?_, fun β => ⟨pt m (β (1 : Fin 2)).val, flush0_6 _ _, fun a => ?_⟩⟩
  · match a with
    | ⟨0, _⟩ => exact (by decide : 0 < 256)
    | ⟨1, _⟩ => exact (by decide : 0 < 512)
  · have h0 : (β (0 : Fin 2)).val < (256 + 256 - 1) / 256 := (β (0 : Fin 2)).isLt
    have h1 : (β (1 : Fin 2)).val < (5120 + 512 - 1) / 512 := (β (1 : Fin 2)).isLt
    rw [(idxK (adm m (okT m)) (pt m (β (1 : Fin 2)).val)).2.2.2.2.2.2.1]
    match a with
    | ⟨0, _⟩ => exact ⟨by show 0 = (β (0 : Fin 2)).val; omega, Or.inl rfl⟩
    | ⟨1, _⟩ => exact ⟨by show (β (1 : Fin 2)).val % 10 = (β (1 : Fin 2)).val; omega, Or.inl rfl⟩

/-- The codes are written back once, whole, after the last step. -/
theorem whole7 : ((cfgK m).win 7).WholeAt (pt m 9) := by
  refine ⟨(flush0_7 _ _).mpr rfl, fun t ht => ?_, fun a => ?_⟩
  · have h := (flush0_7 _ t).mp ht
    have hlt : t.val < 10 := lt_of_lt_of_eq t.isLt N_0
    exact Fin.ext (by show t.val = 9; omega)
  · rw [(idxK (adm m (okT m)) (pt m 9)).2.2.2.2.2.2.2.1]
    match a with
    | ⟨0, _⟩ => exact ⟨rfl, rfl⟩
    | ⟨1, _⟩ => exact ⟨rfl, rfl⟩

/-- The scales are written back once, whole, after the last step. -/
theorem whole8 : ((cfgK m).win 8).WholeAt (pt m 9) := by
  refine ⟨(flush0_8 _ _).mpr rfl, fun t ht => ?_, fun a => ?_⟩
  · have h := (flush0_8 _ t).mp ht
    have hlt : t.val < 10 := lt_of_lt_of_eq t.isLt N_0
    exact Fin.ext (by show t.val = 9; omega)
  · rw [(idxK (adm m (okT m)) (pt m 9)).2.2.2.2.2.2.2.2]
    match a with
    | ⟨0, _⟩ => exact ⟨rfl, rfl⟩
    | ⟨1, _⟩ => exact ⟨rfl, rfl⟩

/-- A step's block, at its place in the whole stream. -/
theorem hB_eq_hAll (c : Dev nD) (t : Fin (cfgK m).N) (y : S256x512.Idx) (i : S256x5120.Idx) (h0 : (i 0).val = (y 0).val)
    (h1 : (i 1).val = 512 * t.val + (y 1).val) : hB m c t y = hAll m c i := by
  have ht : t.val < 10 := lt_of_lt_of_eq t.isLt N_0
  have hy : (y 1).val < 512 := (y 1).isLt
  unfold hAll
  have e : pt m ((i 1).val / 512) = t := Fin.ext (by show (i 1).val / 512 % 10 = t.val; omega)
  rw [e]
  refine congrArg (hB m c t) (funext fun a => ?_)
  match a with
  | ⟨0, _⟩ => exact Fin.ext h0.symm
  | ⟨1, _⟩ => exact Fin.ext (by show (y 1).val = (i 1).val % 512; omega)

/-- The stream's array. -/
theorem arr6 (c : Dev nD) (after) (h : ∀ t, after 6 t = hB m c t) :
    ((rdat m c).withAfter after).arrAt 6 (cfgK m).N = hAll m c := by
  refine ((rdat m c).withAfter after).arrAt_eq_of_covers 6 _ (covers6 m) fun t hf y => ?_
  blk_simp
  rw [Pipeline.RDat.withAfter_after, h]
  refine hB_eq_hAll m c t y _ ?_ ?_
  · blk_simp [idxK (adm m (okT m)) t]
  · blk_simp [idxK (adm m (okT m)) t]
    exact congrArg (· + _) (Nat.mul_comm _ _)

/-- The codes' array. -/
theorem arr7 (c : Dev nD) (after) (h : after 7 (pt m 9) = codesV m c) :
    ((rdat m c).withAfter after).arrAt 7 (cfgK m).N = codesV m c := by
  refine ((rdat m c).withAfter after).arrAt_eq_of_after_last 7 (pt m 9) (whole7 m) _ fun j => ?_
  blk_simp
  rw [Pipeline.RDat.withAfter_after, h]
  rfl

/-- The scales' array. -/
theorem arr8 (c : Dev nD) (after) (h : after 8 (pt m 9) = scaleV m c) :
    ((rdat m c).withAfter after).arrAt 8 (cfgK m).N = scaleV m c := by
  refine ((rdat m c).withAfter after).arrAt_eq_of_after_last 8 (pt m 9) (whole8 m) _ fun j => ?_
  blk_simp
  rw [Pipeline.RDat.withAfter_after, h]
  rfl

/-- Every execution ends with the three results at the stream, the codes and the scales, and the arguments unchanged. -/
theorem run_values : θ_run defs (onTc (τ := τ) (main (F := Ideal))) ⟨m, fun _ => 0, ρ⟩ (fun r => ∀ c : Dev nD,
      r.2.mem ((c.tc : Thread nD τ).loc main_v5_0) = hAll m c
      ∧ r.2.mem ((c.tc : Thread nD τ).loc main_v5_1) = codesV m c
      ∧ r.2.mem ((c.tc : Thread nD τ).loc main_v5_2) = scaleV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨after, hL, hA⟩ := h.1.exists_exact c
    have h6 : ∀ t, after 6 t = hB m c t := fun t => by
      obtain ⟨Y, -, hX⟩ := hL 6 t (flush0_6 _ t)
      rw [rafter6] at hX; exact hX
    have h7 : after 7 (pt m 9) = codesV m c := by
      obtain ⟨Y, -, hX⟩ := hL 7 (pt m 9) ((flush0_7 _ _).mpr rfl)
      rw [rafter7] at hX; exact hX rfl
    have h8 : after 8 (pt m 9) = scaleV m c := by
      obtain ⟨Y, -, hX⟩ := hL 8 (pt m 9) ((flush0_8 _ _).mpr rfl)
      rw [rafter8] at hX; exact hX rfl
    exact ⟨(hA 6).trans (arr6 m c after h6), (hA 7).trans (arr7 m c after h7), (hA 8).trans (arr8 m c after h8),
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      (h.1.arr_in c 2 rfl).trans ((rA_eq m c 2).trans (V_main_arg2 m c)),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c)⟩)
    (run_main_quiescent m ρ)

end Cert.KernelIdeal.Gen

end
-- ==== Proof.Mask.lean ====
/- Which rows are valid: row `r` is position `r % 128` of sequence `r / 128`, and is valid when the position is below the
   sequence's length. The word the kernel builds says the same. -/
module

public import Idealize.ShloMosaic.Lib.Pipeline.ValueKit
public import Idealize.ShloMosaic.PureOps.Ideal
public import Idealize.ShloMosaic.Lib.WordCmp

@[expose] public section

namespace Cert.Quant

open Idealize.ShloMosaic Idealize.ShloMosaic.WordCmp

/-- The bit that says row `r` is valid, from the lengths of the two sequences. -/
def validAt (x y : BitVec 32) (r : Fin 256) : BitVec 1 :=
  BitVec.ofBool (decide (((r.val % 128 : ℕ) : ℤ) < (if r.val < 128 then x else y).toInt))

/-- A small number, read back from its word. -/
theorem toInt_ofNat_small (n : ℕ) (h : n < 2 ^ 31) : (BitVec.ofNat 32 n).toInt = n := by
  rw [BitVec.toInt_ofNat']
  simp only [Int.bmod]
  omega

/-- The smaller of a length and 128. -/
theorem toInt_minsi (y : BitVec 32) : (Scalar.minsi y 128#32).toInt = min y.toInt 128 := by
  have h128 : (128#32 : BitVec 32).toInt = 128 := by decide
  show (if y.slt 128#32 then y else 128#32).toInt = _
  by_cases h : y.toInt < 128
  · rw [if_pos (by simpa [BitVec.slt, h128] using h), min_eq_left h.le]
  · rw [if_neg (by simpa [BitVec.slt, h128] using h), h128, min_eq_right (by omega)]

/-- A start of at most 128 plus a length clamped to 128 does not wrap. -/
theorem toInt_addi_minsi (b : ℕ) (hb : b ≤ 128) (y : BitVec 32) :
    (Scalar.addi (BitVec.ofNat 32 b) (Scalar.minsi y 128#32)).toInt = b + min y.toInt 128 := by
  show (BitVec.ofNat 32 b + Scalar.minsi y 128#32).toInt = _
  rw [BitVec.toInt_add, toInt_minsi, toInt_ofNat_small b (by omega)]
  have := BitVec.le_toInt y
  simp only [Int.bmod]
  omega

/-- The two range tests the kernel makes of a row's number, and the word it compares with zero. -/
theorem kernel_mask (x y : BitVec 32) (r : Fin 256) :
    IntOp.cmpi .sgt
      (Scalar.select
        (IntOp.andi (IntOp.cmpi .sge (BitVec.ofNat 32 r.val) 128#32)
          (IntOp.cmpi .slt (BitVec.ofNat 32 r.val) (Scalar.addi 128#32 (Scalar.minsi y 128#32))))
        1#32
        (Scalar.select
          (IntOp.andi (IntOp.cmpi .sge (BitVec.ofNat 32 r.val) 0#32)
            (IntOp.cmpi .slt (BitVec.ofNat 32 r.val) (Scalar.addi 0#32 (Scalar.minsi x 128#32))))
          1#32 0#32))
      0#32 = validAt x y r := by
  have hr : (BitVec.ofNat 32 r.val).toInt = r.val := toInt_ofNat_small _ (by omega)
  have h128 : (128#32 : BitVec 32).toInt = 128 := by decide
  have h0 : (0#32 : BitVec 32).toInt = 0 := by decide
  have e1 : IntOp.andi (IntOp.cmpi .sge (BitVec.ofNat 32 r.val) 128#32)
      (IntOp.cmpi .slt (BitVec.ofNat 32 r.val) (Scalar.addi 128#32 (Scalar.minsi y 128#32)))
        = if (128 : ℤ) ≤ r.val ∧ (r.val : ℤ) < 128 + min y.toInt 128 then 1#1 else 0#1 := by
    rw [cmpi_sge_eq, cmpi_slt_eq, hr, h128, toInt_addi_minsi 128 le_rfl y, Nat.cast_ofNat]
    by_cases p : (128 : ℤ) ≤ r.val <;> by_cases q : (r.val : ℤ) < 128 + min y.toInt 128 <;> simp only [p, q] <;> rfl
  have e2 : IntOp.andi (IntOp.cmpi .sge (BitVec.ofNat 32 r.val) 0#32)
      (IntOp.cmpi .slt (BitVec.ofNat 32 r.val) (Scalar.addi 0#32 (Scalar.minsi x 128#32)))
        = if (r.val : ℤ) < min x.toInt 128 then 1#1 else 0#1 := by
    rw [cmpi_sge_eq, cmpi_slt_eq, hr, h0, toInt_addi_minsi 0 (by omega) x, Nat.cast_zero, zero_add]
    have p : (0 : ℤ) ≤ r.val := by omega
    by_cases q : (r.val : ℤ) < min x.toInt 128 <;> simp only [p, q] <;> rfl
  rw [e1, e2]
  unfold validAt
  by_cases hlt : r.val < 128
  · rw [if_neg (by omega), if_pos hlt, Nat.mod_eq_of_lt hlt]
    by_cases q : (r.val : ℤ) < x.toInt
    · rw [if_pos (by omega), decide_eq_true q]; rfl
    · rw [if_neg (by omega), decide_eq_false q]; rfl
  · rw [if_neg hlt, if_neg (c := (r.val : ℤ) < min x.toInt 128) (by omega)]
    by_cases q : ((r.val % 128 : ℕ) : ℤ) < y.toInt
    · rw [if_pos (by omega), decide_eq_true q]; rfl
    · rw [if_neg (by omega), decide_eq_false q]; rfl

/-- The reference's test: a bit widened to a word is positive exactly when it is set. -/
theorem reference_mask (n : ℕ) (hn : n < 128) (x : BitVec 32) :
    IntOp.cmpi .sgt (BitVec.setWidth 32 (IntOp.cmpi .slt (BitVec.ofNat 32 n) x)) 0#32 = BitVec.ofBool (decide ((n : ℤ) < x.toInt)) := by
  rw [cmpi_slt_eq, toInt_ofNat_small n (by omega)]
  by_cases q : (n : ℤ) < x.toInt
  · rw [decide_eq_true q]; rfl
  · rw [decide_eq_false q]; rfl

end Cert.Quant
-- ==== Proof.IdealMask.lean ====
/- Which rows are valid, as the kernel decides it: the row's number against the two sequence lengths. -/
module

public import proofs.«01_k».proof.Proof.IdealData
public import proofs.«01_k».proof.Proof.IdealRead
public import proofs.«01_k».proof.Proof.Mask
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.SL Idealize.SL.Sem Cert.Quant

variable (m : (ℓ : Loc nD τ sig) → Buf (Elt Ideal) ℓ)

/-- The two lengths, as the region finds them. -/
def lensK (c : Dev nD) : IVec S2 32 := V m c main_arg6

/-- A word of the table, read through its rectangle. -/
theorem word_read (c : Dev nD) (k : Fin 2) (inb) (h : 0 < S1.numel) :
    (View.whole main_arg6).readAt (Elt Ideal) (Rect.unit (s := S2) ![k.val] S1.size inb).toLoadRect (tbl m 0) (Shape.Idx.first h)
      = lensK m c (ix1 k) := by
  obtain rfl : c = 0 := Subsingleton.elim _ _
  unfold lensK tbl
  refine congrArg (V m 0 main_arg6) (funext fun a => ?_)
  match a with
  | ⟨0, _⟩ => exact Fin.ext (by show k.val + 1 * 0 = k.val; omega)

/-- A row is valid when its position is below its sequence's length. -/
theorem maskB_apply (c : Dev nD) (r : Fin 256) : maskB m c (ix2 r 0) = validAt (lensK m c (ix1 0)) (lensK m c (ix1 1)) r := by
  rw [← word_read m c 0 inb_S2_S1_0 (by decide), ← word_read m c 1 inb_S2_S1_1 (by decide), ← kernel_mask]
  unfold maskB maskOf
  pointwise [k0_pay15]

end Cert.KernelIdeal.Gen

end
-- ==== Proof.IdealEntry.lean ====
/- The arrays the kernel's one region finds, in terms of the arguments. -/
module

public import proofs.«01_k».proof.Proof.IdealKit
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.SL Idealize.SL.Sem

variable (m : (ℓ : Loc nD τ sig) → Buf (Elt Ideal) ℓ)

/-- The codes of the input, as rows. -/
theorem entry0 (c : Dev nD) : V m c main_v0 = shapeCast S256x8192 (m ((c : Thread nD τ).loc main_arg0)) shapeCasts_S2x128x8192_S256x8192 := by
  entry_read; rfl
/-- The scales of the input, one to a row. -/
theorem entry1 (c : Dev nD) : V m c main_v1 = shapeCast S256x1 (m ((c : Thread nD τ).loc main_arg1)) shapeCasts_S2x128x1_S256x1 := by
  entry_read; rfl
/-- The scales of the weight, one to a column. -/
theorem entry2 (c : Dev nD) : V m c main_v2 = shapeCast S1x5120 (m ((c : Thread nD τ).loc main_arg3)) shapeCasts_S5120_S1x5120 := by
  entry_read; rfl
/-- The residual, as rows. -/
theorem entry3 (c : Dev nD) : V m c main_v3 = shapeCast S256x5120 (m ((c : Thread nD τ).loc main_arg4)) shapeCasts_S2x128x5120_S256x5120 := by
  entry_read; rfl
/-- The gain, as one row. -/
theorem entry4 (c : Dev nD) : V m c main_v4 = shapeCast S1x5120 (m ((c : Thread nD τ).loc main_arg5)) shapeCasts_S5120_S1x5120 := by
  entry_read; rfl

end Cert.KernelIdeal.Gen

end
-- ==== Proof.RefRead.lean ====
/- The reference's arithmetic read at an index, over the extended reals. -/
module

public import proofs.«01_k».proof.Proof.Gen.ReferenceIdeal.Value
public import proofs.«01_k».proof.Proof.Bound

@[expose] public section

set_option maxRecDepth 16384

noncomputable section

namespace Cert.ReferenceIdeal.Gen

open Idealize.ShloMosaic Cert.Quant

/-- The stream, the residual added where the row is valid. -/
theorem pay4_apply (x : FVec Ideal S256x8192 .fp8e4m3) (w : FVec Ideal S8192x5120 .fp8e4m3) (a : FVec Ideal S256x1 .f32)
    (b : FVec Ideal S1x5120 .f32) (v : IVec S256x1 32) (h : FVec Ideal S256x5120 .bf16) (r : Fin 256) (j : Fin 5120) :
    k0_pay4 (F := Ideal) x w a b v h (ix2 r j)
      = Scalar.select (IntOp.cmpi .sgt (v (ix2 r 0)) 0#32)
          (h (ix2 r j) + (∑ k : Fin 8192, x (ix2 r k) * w (ix2 k j)) * a (ix2 r 0) * b (ix2 0 j)) 0 := by
  pointwise [k0_pay4]

/-- The stream over the root of its mean square. -/
theorem pay5_apply (x : FVec Ideal S256x8192 .fp8e4m3) (w : FVec Ideal S8192x5120 .fp8e4m3) (a : FVec Ideal S256x1 .f32)
    (b : FVec Ideal S1x5120 .f32) (v : IVec S256x1 32) (h : FVec Ideal S256x5120 .bf16) (r : Fin 256) (j : Fin 5120) :
    k0_pay5 (F := Ideal) x w a b v h (ix2 r j)
      = k0_pay4 (F := Ideal) x w a b v h (ix2 r j)
          * Ideal.rsqrt (Ideal.div (sumSq fun j => k0_pay4 (F := Ideal) x w a b v h (ix2 r j)) (Ideal.ofBits .f32 0x45A00000#32)
              + Ideal.ofBits .f32 0x3727C5AC#32) := by
  unfold sumSq
  pointwise [k0_pay5]

end Cert.ReferenceIdeal.Gen

end
-- ==== Proof.RefScale.lean ====
/- The reference's scales read at an index, over the extended reals. -/
module

public import proofs.«01_k».proof.Proof.Gen.ReferenceIdeal.Value
public import proofs.«01_k».proof.Proof.Bound

@[expose] public section

set_option maxRecDepth 16384

noncomputable section

namespace Cert.ReferenceIdeal.Gen

open Idealize.ShloMosaic Cert.Quant

section

variable (n : FVec Ideal S256x5120 .f32) (g : FVec Ideal S1x5120 .f32) (h : Fin 5120 → EReal) (r : Fin 256)

/-- The stream, normalised and scaled by the gain. -/
theorem pay1_apply (hn : ∀ j, n (ix2 r j) * g (ix2 0 j) = normed h (fun j => g (ix2 0 j)) j) (j : Fin 5120) :
    k0_pay1 (F := Ideal) n g (ix2 r j) = normed h (fun j => g (ix2 0 j)) j := by
  rw [← hn]
  pointwise [k0_pay1]

/-- The scale of a row. -/
theorem pay2_apply (hn : ∀ j, n (ix2 r j) * g (ix2 0 j) = normed h (fun j => g (ix2 0 j)) j) :
    k0_pay2 (F := Ideal) n g (ix2 r 0) = rowScale h fun j => g (ix2 0 j) := by
  pointwise [k0_pay2]
  simp only [pay1_apply n g h r hn]
  unfold rowScale scaleOfMax leastAbove
  refine if_congr Iff.rfl rfl ?_
  refine congrArg (fun f : Fin 254 → EReal => Finset.fold min _ f Finset.univ) (funext fun x => ?_)
  exact if_congr Iff.rfl rfl rfl

end

end Cert.ReferenceIdeal.Gen

end
-- ==== Proof.RefQuant.lean ====
/- The reference's codes read at an index, over the extended reals. -/
module

public import proofs.«01_k».proof.Proof.RefScale
public import proofs.«01_k».proof.Proof.Bound

@[expose] public section

set_option maxRecDepth 16384

noncomputable section

namespace Cert.ReferenceIdeal.Gen

open Idealize.ShloMosaic Cert.Quant

section

variable (n : FVec Ideal S256x5120 .f32) (g : FVec Ideal S1x5120 .f32) (h : Fin 5120 → EReal) (r : Fin 256)

/-- The codes of a row. -/
theorem pay3_apply (hn : ∀ j, n (ix2 r j) * g (ix2 0 j) = normed h (fun j => g (ix2 0 j)) j) (j : Fin 5120) :
    k0_pay3 (F := Ideal) n g (ix2 r j) = rowCode h (fun j => g (ix2 0 j)) j := by
  pointwise [k0_pay3]
  rw [pay1_apply n g h r hn, pay2_apply n g h r hn]
  rfl

end

end Cert.ReferenceIdeal.Gen

end
-- ==== Proof.RefValue.lean ====
/- What the reference's three result arrays hold when it ends: its arithmetic over the arrays its one region finds. -/
module

public import proofs.«01_k».proof.Proof.Gen.ReferenceIdeal.Value
public import Idealize.ShloMosaic.Lib.Pipeline.ValueKit
public import Idealize.ShloMosaic.Lib.Claim

@[expose] public section

set_option maxRecDepth 16384

noncomputable section

namespace Cert.ReferenceIdeal.Gen

open Idealize.ShloMosaic Idealize.ShloMosaic.TcCoe Idealize.SL Idealize.SL.Sem

variable (m : (ℓ : Loc nD τ sig) → Buf (Elt Ideal) ℓ)

/-- Every window's block index at the one point. -/
theorem idxR : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- The one block of window 0 is its whole array. -/
theorem iblk0 (c : Dev nD) : iblk m c 0 t0_0 = V m c main_v7 := by blk_ext! [iblk, idxR t0_0]
/-- The one block of window 1 is its whole array. -/
theorem iblk1 (c : Dev nD) : iblk m c 1 t0_0 = V m c main_v8 := by blk_ext! [iblk, idxR t0_0]
/-- The one block of window 2 is its whole array. -/
theorem iblk2 (c : Dev nD) : iblk m c 2 t0_0 = V m c main_v9 := by blk_ext! [iblk, idxR t0_0]
/-- The one block of window 3 is its whole array. -/
theorem iblk3 (c : Dev nD) : iblk m c 3 t0_0 = V m c main_arg2 := by blk_ext! [iblk, idxR t0_0]
/-- The one block of window 4 is its whole array. -/
theorem iblk4 (c : Dev nD) : iblk m c 4 t0_0 = V m c main_v10 := by blk_ext! [iblk, idxR t0_0]
/-- The one block of window 5 is its whole array. -/
theorem iblk5 (c : Dev nD) : iblk m c 5 t0_0 = V m c main_v11 := by blk_ext! [iblk, idxR t0_0]
/-- The one block of window 6 is its whole array. -/
theorem iblk6 (c : Dev nD) : iblk m c 6 t0_0 = V m c main_v12 := by blk_ext! [iblk, idxR t0_0]

/-- The stream over the arrays the region finds. -/
def streamR (c : Dev nD) : FVec Ideal S256x5120 .bf16 :=
  k0_pay4 (F := Ideal) (V m c main_v8) (V m c main_arg2) (V m c main_v9) (V m c main_v10) (V m c main_v7) (V m c main_v11)

/-- The normalised stream over the arrays the region finds. -/
def normR (c : Dev nD) : FVec Ideal S256x5120 .f32 :=
  k0_pay5 (F := Ideal) (V m c main_v8) (V m c main_arg2) (V m c main_v9) (V m c main_v10) (V m c main_v7) (V m c main_v11)

/-- The loads the normalised stream is computed from are of whole arrays. -/
theorem pay6_eq (x0 : Vec Ideal S256x1 .i32) (x1 : Vec Ideal S256x8192 .fp8e4m3) (x2 : Vec Ideal S256x1 .f32)
    (x3 : Vec Ideal S8192x5120 .fp8e4m3) (x4 : Vec Ideal S1x5120 .f32) (x5 : Vec Ideal S256x5120 .bf16) (x6 : Vec Ideal S1x5120 .f32) :
    k0_pay6 x0 x1 x2 x3 x4 x5 x6 = k0_pay5 (F := Ideal) x1 x3 x2 x4 x0 x5 := by
  have hz : (![0, 0] : Fin 2 → ℕ) = fun _ => 0 := by decide
  unfold k0_pay6
  rw [View.ld_unit_zero (S := S256x8192) hz, View.ld_unit_zero (S := S8192x5120) hz, View.ld_unit_zero (S := S256x1) hz,
    View.ld_unit_zero (S := S1x5120) hz, View.ld_unit_zero (S := S256x1) hz, View.ld_unit_zero (S := S256x5120) hz]

/-- The first result is the stream. -/
theorem final7 (c : Dev nD) : (dats m 0 c).arrAt 7 cfg0.N = streamR m c := by
  refine (dats m 0 c).arrAt_eq_of_after_last 7 t0_0 (by decide +kernel) _ fun j => ?_
  blk_simp
  rw [after0_7]; frame_out
  rw [iblk0, iblk1, iblk2, iblk3, iblk4, iblk5]
  rfl

/-- The second result is the codes of the normalised stream. -/
theorem final8 (c : Dev nD) : (dats m 0 c).arrAt 8 cfg0.N = k0_pay3 (F := Ideal) (normR m c) (V m c main_v12) := by
  refine (dats m 0 c).arrAt_eq_of_after_last 8 t0_0 (by decide +kernel) _ fun j => ?_
  blk_simp
  rw [after0_8]; frame_out
  rw [iblk0, iblk1, iblk2, iblk3, iblk4, iblk5, iblk6]
  exact congrArg (fun n => k0_pay3 (F := Ideal) n (V m c main_v12) j) (pay6_eq ..)

/-- The third result is the scales of the normalised stream. -/
theorem final9 (c : Dev nD) : (dats m 0 c).arrAt 9 cfg0.N = k0_pay2 (F := Ideal) (normR m c) (V m c main_v12) := by
  refine (dats m 0 c).arrAt_eq_of_after_last 9 t0_0 (by decide +kernel) _ fun j => ?_
  blk_simp
  rw [after0_9]; frame_out
  rw [iblk0, iblk1, iblk2, iblk3, iblk4, iblk5, iblk6]
  exact congrArg (fun n => k0_pay2 (F := Ideal) n (V m c main_v12) j) (pay6_eq ..)

end Cert.ReferenceIdeal.Gen

end
-- ==== Proof.RefEntry.lean ====
/- The arrays the reference's one region finds, in terms of the arguments. -/
module

public import proofs.«01_k».proof.Proof.Gen.ReferenceIdeal.Value
public import proofs.«01_k».proof.Proof.Mask
public import Idealize.ShloMosaic.Lib.Pipeline.ValueKit
public import Idealize.ShloMosaic.Lib.Claim

@[expose] public section

set_option maxRecDepth 16384

noncomputable section

namespace Cert.ReferenceIdeal.Gen

open Idealize.ShloMosaic Idealize.ShloMosaic.TcCoe Idealize.SL Idealize.SL.Sem Cert.Quant

variable (m : (ℓ : Loc nD τ sig) → Buf (Elt Ideal) ℓ)

/-- The codes of the input, as rows. -/
theorem entry8 (c : Dev nD) : V m c main_v8 = shapeCast S256x8192 (m ((c : Thread nD τ).loc main_arg0)) shapeCasts_S2x128x8192_S256x8192 := by
  entry_read; rfl
/-- The scales of the input, one to a row. -/
theorem entry9 (c : Dev nD) : V m c main_v9 = shapeCast S256x1 (m ((c : Thread nD τ).loc main_arg1)) shapeCasts_S2x128x1_S256x1 := by
  entry_read; rfl
/-- The scales of the weight, one to a column. -/
theorem entry10 (c : Dev nD) : V m c main_v10 = shapeCast S1x5120 (m ((c : Thread nD τ).loc main_arg3)) shapeCasts_S5120_S1x5120 := by
  entry_read; rfl
/-- The residual, as rows. -/
theorem entry11 (c : Dev nD) : V m c main_v11 = shapeCast S256x5120 (m ((c : Thread nD τ).loc main_arg4)) shapeCasts_S2x128x5120_S256x5120 := by
  entry_read; rfl
/-- The gain, as one row. -/
theorem entry12 (c : Dev nD) : V m c main_v12 = shapeCast S1x5120 (m ((c : Thread nD τ).loc main_arg5)) shapeCasts_S5120_S1x5120 := by
  entry_read; rfl

/-- The word the region finds for a row is positive exactly when the row is valid. -/
theorem entry7_apply (c : Dev nD) (r : Fin 256) :
    IntOp.cmpi .sgt (show BitVec 32 from V m c main_v7 (ix2 r 0)) 0#32
      = validAt (m ((c : Thread nD τ).loc main_arg6) (ix1 0)) (m ((c : Thread nD τ).loc main_arg6) (ix1 1)) r := by
  have e : (V m c main_v7 (ix2 r 0) : BitVec 32)
      = BitVec.setWidth 32 (IntOp.cmpi .slt (BitVec.ofNat 32 (r.val % 128))
          (m ((c : Thread nD τ).loc main_arg6) (ix1 ⟨r.val / 128, by omega⟩))) := by
    entry_read
    pointwise
  refine (congrArg (fun w => IntOp.cmpi .sgt w 0#32) e).trans ((reference_mask _ (by omega) _).trans ?_)
  unfold validAt
  have h : (⟨r.val / 128, by omega⟩ : Fin 2) = if r.val < 128 then 0 else 1 := by
    by_cases hlt : r.val < 128
    · rw [if_pos hlt]; exact Fin.ext (by show r.val / 128 = 0; omega)
    · rw [if_neg hlt]; exact Fin.ext (by show r.val / 128 = 1; omega)
  rw [h]
  by_cases hlt : r.val < 128
  · rw [if_pos hlt, if_pos hlt]
  · rw [if_neg hlt, if_neg hlt]

end Cert.ReferenceIdeal.Gen

end
-- ==== Proof.GammaFinite.lean ====
/- What the precondition says: no entry of the gain is infinite. -/
module

public import proofs.«01_k».proof.Proof.Gen.Pre_gamma_finite
public import Idealize.ShloMosaic.Lib.ReduceAll
public import Idealize.ShloMosaic.Lib.Pipeline.ValueKit
public import Idealize.ShloMosaic.PureOps.Ideal

@[expose] public section

set_option maxRecDepth 16384

noncomputable section

namespace Cert.Pre_gamma_finite.Gen

open Idealize.ShloMosaic

/-- A condition whose bit is one holds. -/
theorem of_bit {p : Prop} [Decidable p] (h : BitVec.ofBool (decide p) = 1#1) : p := by
  by_cases hp : p
  · exact hp
  · rw [decide_eq_false hp] at h; exact absurd h (by decide)

/-- Where the precondition holds, every entry of the gain is at most the largest finite number in absolute value. -/
theorem gamma_le (x0 : FVec Ideal S2x128x8192 .fp8e4m3) (x1 : FVec Ideal S2x128x1 .f32) (x2 : FVec Ideal S8192x5120 .fp8e4m3)
    (x3 : FVec Ideal S5120 .f32) (x4 : FVec Ideal S2x128x5120 .bf16) (g : FVec Ideal S5120 .f32) (l : IVec S2 32)
    (h : fn (F := Ideal) x0 x1 x2 x3 x4 g l = fun _ => 1#1) (j : Fin 5120) :
    max (g (ix1 j) : EReal) (-(g (ix1 j))) ≤ Ideal.ofBits .f32 0x7F7FFFFF#32 := by
  have : Subsingleton S_.Idx := inferInstanceAs (Subsingleton (∀ a : Fin 0, _))
  have e := congrFun h (fun a : Fin 0 => a.elim0)
  have e := Host.reduce_andi_all _ _ _ _ _ e (ix1 j)
  exact of_bit e

end Cert.Pre_gamma_finite.Gen

end
-- ==== Proof.Equation.lean ====
/- The kernel's results are the reference's: the stream, the codes and the scales agree entry by entry when the two
   programs start from the same arguments and no entry of the gain is infinite. -/
module

public import proofs.«01_k».proof.Proof.IdealValue
public import proofs.«01_k».proof.Proof.IdealMask
public import proofs.«01_k».proof.Proof.IdealEntry
public import proofs.«01_k».proof.Proof.RefRead
public import proofs.«01_k».proof.Proof.RefQuant
public import proofs.«01_k».proof.Proof.RefValue
public import proofs.«01_k».proof.Proof.RefEntry
public import proofs.«01_k».proof.Proof.GammaFinite
public import proofs.«01_k».proof.Proof.Gen.ReferenceIdeal.Value
public import proofs.«01_k».proof.Defs

@[expose] public section

set_option maxRecDepth 16384

noncomputable section

namespace Cert.Equation

open Idealize.ShloMosaic Idealize.ShloMosaic.TcCoe Idealize.SL Idealize.SL.Sem Cert.Quant

/-- A launch memory of the kernel. -/
abbrev KMem : Type := (ℓ : Loc Cert.KernelIdeal.nD Cert.KernelIdeal.τ Cert.KernelIdeal.sig) → Buf (Elt Ideal) ℓ
/-- A launch memory of the reference. -/
abbrev RMem : Type := (ℓ : Loc Cert.ReferenceIdeal.nD Cert.ReferenceIdeal.τ Cert.ReferenceIdeal.sig) → Buf (Elt Ideal) ℓ

/-- The two programs start from the same arguments on core `c`. -/
structure Same (m : KMem) (m' : RMem) (c : Dev Cert.KernelIdeal.nD) : Prop where
  x : m' ((c : Thread Cert.ReferenceIdeal.nD Cert.ReferenceIdeal.τ).loc Cert.ReferenceIdeal.main_arg0) = m ((c : Thread Cert.KernelIdeal.nD Cert.KernelIdeal.τ).loc Cert.KernelIdeal.main_arg0)
  xs : m' ((c : Thread Cert.ReferenceIdeal.nD Cert.ReferenceIdeal.τ).loc Cert.ReferenceIdeal.main_arg1) = m ((c : Thread Cert.KernelIdeal.nD Cert.KernelIdeal.τ).loc Cert.KernelIdeal.main_arg1)
  w : m' ((c : Thread Cert.ReferenceIdeal.nD Cert.ReferenceIdeal.τ).loc Cert.ReferenceIdeal.main_arg2) = m ((c : Thread Cert.KernelIdeal.nD Cert.KernelIdeal.τ).loc Cert.KernelIdeal.main_arg2)
  ws : m' ((c : Thread Cert.ReferenceIdeal.nD Cert.ReferenceIdeal.τ).loc Cert.ReferenceIdeal.main_arg3) = m ((c : Thread Cert.KernelIdeal.nD Cert.KernelIdeal.τ).loc Cert.KernelIdeal.main_arg3)
  res : m' ((c : Thread Cert.ReferenceIdeal.nD Cert.ReferenceIdeal.τ).loc Cert.ReferenceIdeal.main_arg4) = m ((c : Thread Cert.KernelIdeal.nD Cert.KernelIdeal.τ).loc Cert.KernelIdeal.main_arg4)
  gain : m' ((c : Thread Cert.ReferenceIdeal.nD Cert.ReferenceIdeal.τ).loc Cert.ReferenceIdeal.main_arg5) = m ((c : Thread Cert.KernelIdeal.nD Cert.KernelIdeal.τ).loc Cert.KernelIdeal.main_arg5)
  lens : m' ((c : Thread Cert.ReferenceIdeal.nD Cert.ReferenceIdeal.τ).loc Cert.ReferenceIdeal.main_arg6) = m ((c : Thread Cert.KernelIdeal.nD Cert.KernelIdeal.τ).loc Cert.KernelIdeal.main_arg6)

variable {m : KMem} {m' : RMem} {c : Dev Cert.KernelIdeal.nD}

/-- The streams agree. -/
theorem stream_eq (h : Same m m' c) : (Cert.KernelIdeal.Gen.hAll m c : FVec Ideal Cert.KernelIdeal.S256x5120 .bf16) = Cert.ReferenceIdeal.Gen.streamR m' c := by
  funext y
  obtain ⟨r, j, rfl⟩ : ∃ (r : Fin 256) (j : Fin 5120), y = ix2 r j := ⟨y 0, y 1, by funext a; match a with | ⟨0, _⟩ => rfl | ⟨1, _⟩ => rfl⟩
  refine (Cert.KernelIdeal.Gen.hAll_apply m c r j).trans ?_
  refine Eq.trans ?_ (Cert.ReferenceIdeal.Gen.pay4_apply _ _ _ _ _ _ r j).symm
  rw [Cert.ReferenceIdeal.Gen.entry8, Cert.ReferenceIdeal.Gen.entry9, Cert.ReferenceIdeal.Gen.entry10, Cert.ReferenceIdeal.Gen.entry11,
    Cert.ReferenceIdeal.Gen.V_main_arg2, h.x, h.xs, h.w, h.ws, h.res]
  unfold Cert.KernelIdeal.Gen.streamK
  rw [Cert.KernelIdeal.Gen.entry0, Cert.KernelIdeal.Gen.entry1, Cert.KernelIdeal.Gen.entry2, Cert.KernelIdeal.Gen.entry3,
    Cert.KernelIdeal.Gen.V_main_arg2]
  have hv : Cert.KernelIdeal.Gen.maskB m c (ix2 r 0) = IntOp.cmpi .sgt (show BitVec 32 from Cert.ReferenceIdeal.Gen.V m' c Cert.ReferenceIdeal.main_v7 (ix2 r 0)) 0#32 := by
    refine Eq.trans ?_ (Cert.ReferenceIdeal.Gen.entry7_apply m' c r).symm
    rw [h.lens]
    refine (Cert.KernelIdeal.Gen.maskB_apply m c r).trans ?_
    unfold Cert.KernelIdeal.Gen.lensK
    rw [Cert.KernelIdeal.Gen.V_main_arg6]
  rw [hv]
  rfl

/-- The gain of the kernel's last step. -/
theorem gain_kernel (m : KMem) (c : Dev Cert.KernelIdeal.nD) (j : Fin 5120) :
    Cert.KernelIdeal.Gen.blkK m c 5 (Cert.KernelIdeal.Gen.pt m 9) (ix2 0 j)
      = shapeCast Cert.KernelIdeal.S1x5120 (m ((c : Thread Cert.KernelIdeal.nD Cert.KernelIdeal.τ).loc Cert.KernelIdeal.main_arg5))
          Cert.KernelIdeal.Gen.shapeCasts_S5120_S1x5120 (ix2 0 j) := by
  rw [Cert.KernelIdeal.Gen.blk5_apply, Cert.KernelIdeal.Gen.entry4]

/-- The two gains agree. -/
theorem gain_eq (h : Same m m' c) (j : Fin 5120) :
    Cert.ReferenceIdeal.Gen.V m' c Cert.ReferenceIdeal.main_v12 (ix2 0 j)
      = Cert.KernelIdeal.Gen.blkK m c 5 (Cert.KernelIdeal.Gen.pt m 9) (ix2 0 j) := by
  refine Eq.trans ?_ (gain_kernel m c j).symm
  rw [Cert.ReferenceIdeal.Gen.entry12, h.gain]

/-- The gain as a row of one argument entry each. -/
theorem gain_read (g : FVec Ideal Cert.KernelIdeal.S5120 .f32) (j : Fin 5120) :
    shapeCast Cert.KernelIdeal.S1x5120 g Cert.KernelIdeal.Gen.shapeCasts_S5120_S1x5120 (ix2 0 j) = g (ix1 j) := by
  pointwise

/-- Where the precondition holds, the kernel's gain is finite. -/
theorem gain_le (hp : Cert.Pre_KernelIdeal_gamma_finite m) (j : Fin 5120) :
    max (show EReal from Cert.KernelIdeal.Gen.blkK m c 5 (Cert.KernelIdeal.Gen.pt m 9) (ix2 0 j))
      (-(show EReal from Cert.KernelIdeal.Gen.blkK m c 5 (Cert.KernelIdeal.Gen.pt m 9) (ix2 0 j))) ≤ Ideal.ofBits .f32 0x7F7FFFFF#32 := by
  have e := (gain_kernel m c j).trans (gain_read _ j)
  have hle := Cert.Pre_gamma_finite.Gen.gamma_le _ _ _ _ _ _ _ (hp c) j
  exact le_of_eq_of_le (congrArg (fun x : EReal => max x (-x)) e) hle

/-- A row of the reference's normalised stream, scaled by the gain. -/
theorem norm_row (m' : RMem) (c : Dev Cert.KernelIdeal.nD) (r : Fin 256) (j : Fin 5120) :
    (show EReal from Cert.ReferenceIdeal.Gen.normR m' c (ix2 r j)) * (show EReal from Cert.ReferenceIdeal.Gen.V m' c Cert.ReferenceIdeal.main_v12 (ix2 0 j))
      = normed (fun j => Cert.ReferenceIdeal.Gen.streamR m' c (ix2 r j)) (fun j => Cert.ReferenceIdeal.Gen.V m' c Cert.ReferenceIdeal.main_v12 (ix2 0 j)) j :=
  congrArg (fun x : EReal => x * Cert.ReferenceIdeal.Gen.V m' c Cert.ReferenceIdeal.main_v12 (ix2 0 j)) (Cert.ReferenceIdeal.Gen.pay5_apply _ _ _ _ _ _ r j)

/-- The rows of the two streams agree. -/
theorem row_eq (h : Same m m' c) (r : Fin 256) :
    (fun j : Fin 5120 => (Cert.KernelIdeal.Gen.hAll m c (ix2 r j) : EReal)) = fun j : Fin 5120 => (Cert.ReferenceIdeal.Gen.streamR m' c (ix2 r j) : EReal) :=
  funext fun j => congrFun (stream_eq h) (ix2 r j)

/-- The two gains agree, as rows. -/
theorem gain_row (h : Same m m' c) :
    (fun j : Fin 5120 => (Cert.KernelIdeal.Gen.blkK m c 5 (Cert.KernelIdeal.Gen.pt m 9) (ix2 0 j) : EReal))
      = fun j : Fin 5120 => (Cert.ReferenceIdeal.Gen.V m' c Cert.ReferenceIdeal.main_v12 (ix2 0 j) : EReal) :=
  funext fun j => (gain_eq h j).symm

/-- The kernel's code at an index. -/
theorem codes_kernel (hp : Cert.Pre_KernelIdeal_gamma_finite m) (r : Fin 256) (j : Fin 5120) :
    (Cert.KernelIdeal.Gen.codesV m c : FVec Ideal Cert.KernelIdeal.S256x5120 .fp8e4m3) (ix2 r j)
      = rowCode (fun j : Fin 5120 => (Cert.KernelIdeal.Gen.hAll m c (ix2 r j) : EReal))
          (fun j : Fin 5120 => (Cert.KernelIdeal.Gen.blkK m c 5 (Cert.KernelIdeal.Gen.pt m 9) (ix2 0 j) : EReal)) j := by
  unfold Cert.KernelIdeal.Gen.codesV
  exact Cert.KernelIdeal.Gen.codesOf_apply _ _ _ (gain_le hp) r (Cert.KernelIdeal.Gen.ssq_total m c r) j

set_option maxHeartbeats 4000000 in
/-- The reference's code at an index. -/
theorem codes_reference (m' : RMem) (c : Dev Cert.KernelIdeal.nD) (r : Fin 256) (j : Fin 5120) :
    (Cert.ReferenceIdeal.Gen.k0_pay3 (F := Ideal) (Cert.ReferenceIdeal.Gen.normR m' c) (Cert.ReferenceIdeal.Gen.V m' c Cert.ReferenceIdeal.main_v12) : FVec Ideal Cert.ReferenceIdeal.S256x5120 .fp8e4m3) (ix2 r j)
      = rowCode (fun j : Fin 5120 => (Cert.ReferenceIdeal.Gen.streamR m' c (ix2 r j) : EReal))
          (fun j : Fin 5120 => (Cert.ReferenceIdeal.Gen.V m' c Cert.ReferenceIdeal.main_v12 (ix2 0 j) : EReal)) j :=
  Cert.ReferenceIdeal.Gen.pay3_apply _ _ _ r (norm_row m' c r) j

/-- The codes agree. -/
theorem codes_eq (h : Same m m' c) (hp : Cert.Pre_KernelIdeal_gamma_finite m) :
    (Cert.KernelIdeal.Gen.codesV m c : FVec Ideal Cert.KernelIdeal.S256x5120 .fp8e4m3)
      = Cert.ReferenceIdeal.Gen.k0_pay3 (F := Ideal) (Cert.ReferenceIdeal.Gen.normR m' c) (Cert.ReferenceIdeal.Gen.V m' c Cert.ReferenceIdeal.main_v12) := by
  funext y
  obtain ⟨r, j, rfl⟩ : ∃ (r : Fin 256) (j : Fin 5120), y = ix2 r j := ⟨y 0, y 1, by funext a; match a with | ⟨0, _⟩ => rfl | ⟨1, _⟩ => rfl⟩
  exact (codes_kernel hp r j).trans ((congrArg₂ (fun a b => rowCode a b j) (row_eq h r) (gain_row h)).trans (codes_reference m' c r j).symm)

/-- An index of one column is a row. -/
theorem column_ix (y : Cert.KernelIdeal.S256x1.Idx) : ∃ r : Fin 256, y = ix2 r 0 := by
  refine ⟨y 0, ?_⟩
  funext a
  match a with
  | ⟨0, _⟩ => rfl
  | ⟨1, _⟩ => exact Subsingleton.elim (α := Fin 1) _ _

/-- The kernel's scale of a row. -/
theorem scale_kernel (hp : Cert.Pre_KernelIdeal_gamma_finite m) (r : Fin 256) :
    (Cert.KernelIdeal.Gen.scaleV m c : FVec Ideal Cert.KernelIdeal.S256x1 .f32) (ix2 r 0)
      = rowScale (fun j : Fin 5120 => (Cert.KernelIdeal.Gen.hAll m c (ix2 r j) : EReal))
          (fun j : Fin 5120 => (Cert.KernelIdeal.Gen.blkK m c 5 (Cert.KernelIdeal.Gen.pt m 9) (ix2 0 j) : EReal)) := by
  unfold Cert.KernelIdeal.Gen.scaleV
  exact Cert.KernelIdeal.Gen.scaleOf_apply _ _ _ (gain_le hp) r (Cert.KernelIdeal.Gen.ssq_total m c r)

/-- The reference's scale of a row. -/
theorem scale_reference (m' : RMem) (c : Dev Cert.KernelIdeal.nD) (r : Fin 256) :
    (Cert.ReferenceIdeal.Gen.k0_pay2 (F := Ideal) (Cert.ReferenceIdeal.Gen.normR m' c) (Cert.ReferenceIdeal.Gen.V m' c Cert.ReferenceIdeal.main_v12) : FVec Ideal Cert.ReferenceIdeal.S256x1 .f32) (ix2 r 0)
      = rowScale (fun j : Fin 5120 => (Cert.ReferenceIdeal.Gen.streamR m' c (ix2 r j) : EReal))
          (fun j : Fin 5120 => (Cert.ReferenceIdeal.Gen.V m' c Cert.ReferenceIdeal.main_v12 (ix2 0 j) : EReal)) :=
  Cert.ReferenceIdeal.Gen.pay2_apply _ _ _ r (norm_row m' c r)

/-- The scales agree. -/
theorem scale_eq (h : Same m m' c) (hp : Cert.Pre_KernelIdeal_gamma_finite m) :
    (Cert.KernelIdeal.Gen.scaleV m c : FVec Ideal Cert.KernelIdeal.S256x1 .f32)
      = Cert.ReferenceIdeal.Gen.k0_pay2 (F := Ideal) (Cert.ReferenceIdeal.Gen.normR m' c) (Cert.ReferenceIdeal.Gen.V m' c Cert.ReferenceIdeal.main_v12) := by
  funext y
  obtain ⟨r, rfl⟩ := column_ix y
  exact (scale_kernel hp r).trans ((congrArg₂ rowScale (row_eq h r) (gain_row h)).trans (scale_reference m' c r).symm)

/-- From arguments that agree and a finite gain, the two programs end with the same three results, their arguments unchanged. -/
theorem algebraic : Cert.algebraic_KernelIdeal_ReferenceIdeal_pre_gamma_finite := by
  intro m g m' g' hp he
  have hs : ∀ c, Same m m' c := fun c => by
    obtain ⟨h0, h1, h2, h3, h4, h5, h6⟩ := he c
    exact ⟨h0, h1, h2, h3, h4, h5, h6⟩
  refine ⟨fun c => Cert.KernelIdeal.Gen.hAll m c, fun c => Cert.KernelIdeal.Gen.codesV m c, fun c => Cert.KernelIdeal.Gen.scaleV m c,
    Cert.KernelIdeal.Gen.run_values m g, ?_⟩
  refine (θ_run _ _ _).mono (fun r h c => ?_) (Cert.ReferenceIdeal.Value.run_blocks m' g')
  obtain ⟨h7, h8, h9, hA⟩ := h c
  exact ⟨(h7.trans (Cert.ReferenceIdeal.Gen.final7 m' c)).trans (stream_eq (hs c)).symm,
    (h8.trans (Cert.ReferenceIdeal.Gen.final8 m' c)).trans (codes_eq (hs c) hp).symm,
    (h9.trans (Cert.ReferenceIdeal.Gen.final9 m' c)).trans (scale_eq (hs c) hp).symm, hA⟩

end Cert.Equation

end
-- ==== Proof.lean ====
/- The certificate, assembled.

   * The frames: `Kernel`, `KernelIdeal` and `ReferenceIdeal` each run to the end with their arguments unchanged
     (`Proof/KernelRun.lean`, `Proof/IdealRun.lean`, and the generated frame of the reference).
   * `preserves`: the one named constant of `KernelIdeal`, the exact 1/5120, stands where `Kernel` has its float.
   * `algebraic`: with a finite gain, `KernelIdeal` and `ReferenceIdeal` end with the same three results
     (`Proof/Equation.lean`). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Value
public import proofs.«01_k».proof.Proof.Gen.Pre_gamma_finite
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.IdealRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate holds. -/
theorem claim : Cert.Claim := ⟨Cert.Kernel.Gen.facts, Cert.KernelIdeal.Gen.facts, Cert.ReferenceIdeal.Gen.facts, Cert.Pre_gamma_finite.Gen.facts,
  fun m g _ => Cert.Kernel.Gen.frame_args m g,
  fun m g _ => Cert.KernelIdeal.Gen.frame_args m g,
  fun m g _ => Cert.KernelIdeal.Gen.frame_args m g,
  fun m g _ => Cert.ReferenceIdeal.Gen.frame m g,
  fun m g _ => Cert.ReferenceIdeal.Gen.frame m g,
  IdealRules.named_const.statement Cert.KernelIdeal.κ "inv_n" .f32 0x394CCCCD#32 ((1 / 5120 : ℝ) : EReal) rfl,
  Cert.Equation.algebraic⟩

end Cert.Proof

end
